-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k_KernelIdeal [hPre_finite_q_k_KernelIdeal : Cert.Pre_finite_q_k_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_q_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k_ReferenceIdeal [hPre_finite_q_k_ReferenceIdeal : Cert.Pre_finite_q_k_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_q_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k_KernelIdeal [hKernelIdeal : Cert.KernelIdeal.Facts] [hPre_finite_q_k_KernelIdeal : Cert.Pre_finite_q_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k_ReferenceIdeal [hReferenceIdeal : Cert.ReferenceIdeal.Facts] [hPre_finite_q_k_ReferenceIdeal : Cert.Pre_finite_q_k_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_q_k_KernelIdeal [hKernelIdeal : Cert.KernelIdeal.Facts] [hReferenceIdeal : Cert.ReferenceIdeal.Facts] [hPre_finite_q_k_KernelIdeal : Cert.Pre_finite_q_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_q_k_KernelIdeal : Cert.Pre_finite_q_k_KernelIdeal.Facts) (hPre_finite_q_k_ReferenceIdeal : Cert.Pre_finite_q_k_ReferenceIdeal.Facts),
    quiescent_Kernel (hKernel := hKernel)
    ∧ quiescent_KernelIdeal (hKernelIdeal := hKernelIdeal)
    ∧ quiescent_KernelIdeal_pre_finite_q_k_KernelIdeal (hKernelIdeal := hKernelIdeal) (hPre_finite_q_k_KernelIdeal := hPre_finite_q_k_KernelIdeal)
    ∧ quiescent_ReferenceIdeal (hReferenceIdeal := hReferenceIdeal)
    ∧ quiescent_ReferenceIdeal_pre_finite_q_k_ReferenceIdeal (hReferenceIdeal := hReferenceIdeal) (hPre_finite_q_k_ReferenceIdeal := hPre_finite_q_k_ReferenceIdeal)
    ∧ preserves_Kernel_KernelIdeal
    ∧ algebraic_KernelIdeal_ReferenceIdeal_pre_finite_q_k_KernelIdeal (hKernelIdeal := hKernelIdeal) (hReferenceIdeal := hReferenceIdeal) (hPre_finite_q_k_KernelIdeal := hPre_finite_q_k_KernelIdeal)
-- ==== Pre_finite_q_k_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  bcast_S_S4x4096x8x128 : S_.BroadcastsInDim S4x4096x8x128 (![] : Fin 0 → Fin S4x4096x8x128.rank)

variable [Facts]

def fn {F : FTy → Type} [FloatOps F] (main_arg0 : FVec F S4x32x8x128 .f32) (main_arg1 : FVec F S4x4096x8x128 .f32) (main_arg2 : FVec F S4x4096x8x128 .f32) : IVec S4x32x8x128 1 × IVec S4x4096x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x4096x8x128 .f32 := Host.absf main_arg1
  let main_cst_0 : FVec F S_ .f32 := constant S_ .f32 0x7F800000#32
  let main_v4 : FVec F S4x4096x8x128 .f32 := broadcastInDim S4x4096x8x128 ![] bcast_S_S4x4096x8x128 main_cst_0
  let main_v5 : IVec S4x4096x8x128 1 := cmpf .olt main_v3 main_v4
  (main_v2, main_v5)
-- ==== Pre_finite_q_k_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  bcast_S_S4x8192x8x128 : S_.BroadcastsInDim S4x8192x8x128 (![] : Fin 0 → Fin S4x8192x8x128.rank)

variable [Facts]

def fn {F : FTy → Type} [FloatOps F] (main_arg0 : FVec F S4x32x8x128 .f32) (main_arg1 : FVec F S4x8192x8x128 .f32) (main_arg2 : FVec F S4x8192x8x128 .f32) : IVec S4x32x8x128 1 × IVec S4x8192x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x8192x8x128 .f32 := Host.absf main_arg1
  let main_cst_0 : FVec F S_ .f32 := constant S_ .f32 0x7F800000#32
  let main_v4 : FVec F S4x8192x8x128 .f32 := broadcastInDim S4x8192x8x128 ![] bcast_S_S4x8192x8x128 main_cst_0
  let main_v5 : IVec S4x8192x8x128 1 := cmpf .olt main_v3 main_v4
  (main_v2, main_v5)
-- ==== Kernel.lean ====
abbrev S4x32x8x128 : Shape := ⟨4, ![4, 32, 8, 128]⟩
abbrev S4x4096x8x128 : Shape := ⟨4, ![4, 4096, 8, 128]⟩
abbrev S4x1024x8x128 : Shape := ⟨4, ![4, 1024, 8, 128]⟩
abbrev S8x4x32x128 : Shape := ⟨4, ![8, 4, 32, 128]⟩
abbrev S8x4x32 : Shape := ⟨3, ![8, 4, 32]⟩
abbrev S3x8x4x32x128 : Shape := ⟨5, ![3, 8, 4, 32, 128]⟩
abbrev S3x8x4x32 : Shape := ⟨4, ![3, 8, 4, 32]⟩
abbrev S2 : Shape := ⟨1, ![2]⟩
abbrev S3x3 : Shape := ⟨2, ![3, 3]⟩
abbrev S_ : Shape := ⟨0, ![]⟩
abbrev S1 : Shape := ⟨1, ![1]⟩
abbrev S4x32x1x128 : Shape := ⟨4, ![4, 32, 1, 128]⟩
abbrev S4x32x128 : Shape := ⟨3, ![4, 32, 128]⟩
abbrev S4x1024x1x128 : Shape := ⟨4, ![4, 1024, 1, 128]⟩
abbrev S4x1024x128 : Shape := ⟨3, ![4, 1024, 128]⟩
abbrev S4x32x1024 : Shape := ⟨3, ![4, 32, 1024]⟩
abbrev S4x32 : Shape := ⟨2, ![4, 32]⟩
abbrev S1x4x32 : Shape := ⟨3, ![1, 4, 32]⟩
abbrev S1x4x32x128 : Shape := ⟨4, ![1, 4, 32, 128]⟩
abbrev S1x1 : Shape := ⟨2, ![1, 1]⟩
abbrev S1x3x4x32x128 : Shape := ⟨5, ![1, 3, 4, 32, 128]⟩
abbrev S3x4x32x128 : Shape := ⟨4, ![3, 4, 32, 128]⟩
abbrev S1x3x4x32 : Shape := ⟨4, ![1, 3, 4, 32]⟩
abbrev S3x4x32 : Shape := ⟨3, ![3, 4, 32]⟩
abbrev S1x2x4x32x128 : Shape := ⟨5, ![1, 2, 4, 32, 128]⟩
abbrev S2x4x32x128 : Shape := ⟨4, ![2, 4, 32, 128]⟩
abbrev S1x2x4x32 : Shape := ⟨4, ![1, 2, 4, 32]⟩
abbrev S2x4x32 : Shape := ⟨3, ![2, 4, 32]⟩
abbrev S1x8x4x32x128 : Shape := ⟨5, ![1, 8, 4, 32, 128]⟩
abbrev S1x8x4x32 : Shape := ⟨4, ![1, 8, 4, 32]⟩
abbrev S8x4x32x1 : Shape := ⟨4, ![8, 4, 32, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x32x8x128, .f32⟩
  | .local _ .vmem, ⟨0, _⟩ => ⟨S4x32x8x128, .f32⟩
  | .local _ .vmem, ⟨1, _⟩ => ⟨S4x32x8x128, .f32⟩
  | .local _ .vmem, ⟨2, _⟩ => ⟨S4x1024x8x128, .f32⟩
  | .local _ .vmem, ⟨3, _⟩ => ⟨S4x1024x8x128, .f32⟩
  | .local _ .vmem, ⟨4, _⟩ => ⟨S8x4x32x128, .f32⟩
  | .local _ .vmem, ⟨5, _⟩ => ⟨S8x4x32, .f32⟩
  | .local _ .vmem, ⟨6, _⟩ => ⟨S3x8x4x32x128, .f32⟩
  | .local _ .vmem, ⟨7, _⟩ => ⟨S3x8x4x32, .f32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 2 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) : Fin 4 → Nat :=
  let c0_i32_22 : BitVec 32 := 0#32
  let c2_i32_20 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_20 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c1024_i32 : BitVec 32 := 1024#32
  let v33 : BitVec 32 := Scalar.muli v32 c1024_i32
  let c0_i32_23 : BitVec 32 := 0#32
  let c0_i32_24 : BitVec 32 := 0#32
  ![0, v33.toNat, 0, 0]
def k0_dev4 (d0 : Dev nD) : Nat :=
  let c0_i32_219 : BitVec 32 := 0#32
  let c1_i32_212 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.subi c1_i32_212 v2
  let c4_i32_218 : BitVec 32 := 4#32
  let v223 : BitVec 32 := Scalar.muli v222 c4_i32_218
  let v224 : BitVec 32 := Scalar.addi c0_i32_219 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v225 : BitVec 32 := Scalar.muli v5 c2_i32_220
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v227 : BitVec 32 := Scalar.muli v8 c1_i32_221
  let v228 : BitVec 32 := Scalar.addi v226 v227
  v228.toNat
def k0_dev5 (d0 : Dev nD) : Nat :=
  let c0_i32_236 : BitVec 32 := 0#32
  let c1_i32_212 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.subi c1_i32_212 v2
  let c4_i32_235 : BitVec 32 := 4#32
  let v236 : BitVec 32 := Scalar.muli v222 c4_i32_235
  let v237 : BitVec 32 := Scalar.addi c0_i32_236 v236
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v238 : BitVec 32 := Scalar.muli v5 c2_i32_237
  let v239 : BitVec 32 := Scalar.addi v237 v238
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v240 : BitVec 32 := Scalar.muli v8 c1_i32_238
  let v241 : BitVec 32 := Scalar.addi v239 v240
  v241.toNat
def k0_dev6 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v250 : BitVec 32 := Scalar.muli v2 c4_i32_251
  let v251 : BitVec 32 := Scalar.addi c0_i32_252 v250
  let c1_i32_245 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v249 : BitVec 32 := Scalar.subi c1_i32_245 v5
  let c2_i32_253 : BitVec 32 := 2#32
  let v252 : BitVec 32 := Scalar.muli v249 c2_i32_253
  let v253 : BitVec 32 := Scalar.addi v251 v252
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_254 : BitVec 32 := 1#32
  let v254 : BitVec 32 := Scalar.muli v8 c1_i32_254
  let v255 : BitVec 32 := Scalar.addi v253 v254
  v255.toNat
def k0_dev7 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v263 : BitVec 32 := Scalar.muli v2 c4_i32_268
  let v264 : BitVec 32 := Scalar.addi c0_i32_269 v263
  let c1_i32_245 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v249 : BitVec 32 := Scalar.subi c1_i32_245 v5
  let c2_i32_270 : BitVec 32 := 2#32
  let v265 : BitVec 32 := Scalar.muli v249 c2_i32_270
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v267 : BitVec 32 := Scalar.muli v8 c1_i32_271
  let v268 : BitVec 32 := Scalar.addi v266 v267
  v268.toNat
def k0_dev8 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v277 : BitVec 32 := Scalar.muli v2 c4_i32_284
  let v278 : BitVec 32 := Scalar.addi c0_i32_285 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v279 : BitVec 32 := Scalar.muli v5 c2_i32_286
  let v280 : BitVec 32 := Scalar.addi v278 v279
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v276 : BitVec 32 := Scalar.subi c1_i32_278 v8
  let c1_i32_287 : BitVec 32 := 1#32
  let v281 : BitVec 32 := Scalar.muli v276 c1_i32_287
  let v282 : BitVec 32 := Scalar.addi v280 v281
  v282.toNat
def k0_dev9 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v290 : BitVec 32 := Scalar.muli v2 c4_i32_300
  let v291 : BitVec 32 := Scalar.addi c0_i32_301 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v292 : BitVec 32 := Scalar.muli v5 c2_i32_302
  let v293 : BitVec 32 := Scalar.addi v291 v292
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v276 : BitVec 32 := Scalar.subi c1_i32_278 v8
  let c1_i32_303 : BitVec 32 := 1#32
  let v294 : BitVec 32 := Scalar.muli v276 c1_i32_303
  let v295 : BitVec 32 := Scalar.addi v293 v294
  v295.toNat
def k0_dev10 (d0 : Dev nD) : Nat :=
  let c0_i32_514 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_513 : BitVec 32 := 4#32
  let v414 : BitVec 32 := Scalar.muli v2 c4_i32_513
  let v415 : BitVec 32 := Scalar.addi c0_i32_514 v414
  let c1_i32_507 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v413 : BitVec 32 := Scalar.subi c1_i32_507 v5
  let c2_i32_515 : BitVec 32 := 2#32
  let v416 : BitVec 32 := Scalar.muli v413 c2_i32_515
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_516 : BitVec 32 := 1#32
  let v418 : BitVec 32 := Scalar.muli v8 c1_i32_516
  let v419 : BitVec 32 := Scalar.addi v417 v418
  v419.toNat
def k0_dev11 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v427 : BitVec 32 := Scalar.muli v2 c4_i32_530
  let v428 : BitVec 32 := Scalar.addi c0_i32_531 v427
  let c1_i32_507 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v413 : BitVec 32 := Scalar.subi c1_i32_507 v5
  let c2_i32_532 : BitVec 32 := 2#32
  let v429 : BitVec 32 := Scalar.muli v413 c2_i32_532
  let v430 : BitVec 32 := Scalar.addi v428 v429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_533 : BitVec 32 := 1#32
  let v431 : BitVec 32 := Scalar.muli v8 c1_i32_533
  let v432 : BitVec 32 := Scalar.addi v430 v431
  v432.toNat
def k0_dev12 (d0 : Dev nD) : Nat :=
  let c0_i32_547 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_546 : BitVec 32 := 4#32
  let v441 : BitVec 32 := Scalar.muli v2 c4_i32_546
  let v442 : BitVec 32 := Scalar.addi c0_i32_547 v441
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_548 : BitVec 32 := 2#32
  let v443 : BitVec 32 := Scalar.muli v5 c2_i32_548
  let v444 : BitVec 32 := Scalar.addi v442 v443
  let c1_i32_540 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v440 : BitVec 32 := Scalar.subi c1_i32_540 v8
  let c1_i32_549 : BitVec 32 := 1#32
  let v445 : BitVec 32 := Scalar.muli v440 c1_i32_549
  let v446 : BitVec 32 := Scalar.addi v444 v445
  v446.toNat
def k0_dev13 (d0 : Dev nD) : Nat :=
  let c0_i32_564 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_563 : BitVec 32 := 4#32
  let v454 : BitVec 32 := Scalar.muli v2 c4_i32_563
  let v455 : BitVec 32 := Scalar.addi c0_i32_564 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_565 : BitVec 32 := 2#32
  let v456 : BitVec 32 := Scalar.muli v5 c2_i32_565
  let v457 : BitVec 32 := Scalar.addi v455 v456
  let c1_i32_540 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v440 : BitVec 32 := Scalar.subi c1_i32_540 v8
  let c1_i32_566 : BitVec 32 := 1#32
  let v458 : BitVec 32 := Scalar.muli v440 c1_i32_566
  let v459 : BitVec 32 := Scalar.addi v457 v458
  v459.toNat
def k0_dev14 (d0 : Dev nD) : Nat :=
  let c0_i32_580 : BitVec 32 := 0#32
  let c1_i32_573 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v467 : BitVec 32 := Scalar.subi c1_i32_573 v2
  let c4_i32_579 : BitVec 32 := 4#32
  let v468 : BitVec 32 := Scalar.muli v467 c4_i32_579
  let v469 : BitVec 32 := Scalar.addi c0_i32_580 v468
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_581 : BitVec 32 := 2#32
  let v470 : BitVec 32 := Scalar.muli v5 c2_i32_581
  let v471 : BitVec 32 := Scalar.addi v469 v470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_582 : BitVec 32 := 1#32
  let v472 : BitVec 32 := Scalar.muli v8 c1_i32_582
  let v473 : BitVec 32 := Scalar.addi v471 v472
  v473.toNat
def k0_dev15 (d0 : Dev nD) : Nat :=
  let c0_i32_597 : BitVec 32 := 0#32
  let c1_i32_573 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v467 : BitVec 32 := Scalar.subi c1_i32_573 v2
  let c4_i32_596 : BitVec 32 := 4#32
  let v481 : BitVec 32 := Scalar.muli v467 c4_i32_596
  let v482 : BitVec 32 := Scalar.addi c0_i32_597 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v483 : BitVec 32 := Scalar.muli v5 c2_i32_598
  let v484 : BitVec 32 := Scalar.addi v482 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_599 : BitVec 32 := 1#32
  let v485 : BitVec 32 := Scalar.muli v8 c1_i32_599
  let v486 : BitVec 32 := Scalar.addi v484 v485
  v486.toNat
def k0_dev16 (d0 : Dev nD) : Nat :=
  let c0_i32_810 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_809 : BitVec 32 := 4#32
  let v605 : BitVec 32 := Scalar.muli v2 c4_i32_809
  let v606 : BitVec 32 := Scalar.addi c0_i32_810 v605
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_811 : BitVec 32 := 2#32
  let v607 : BitVec 32 := Scalar.muli v5 c2_i32_811
  let v608 : BitVec 32 := Scalar.addi v606 v607
  let c1_i32_803 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v604 : BitVec 32 := Scalar.subi c1_i32_803 v8
  let c1_i32_812 : BitVec 32 := 1#32
  let v609 : BitVec 32 := Scalar.muli v604 c1_i32_812
  let v610 : BitVec 32 := Scalar.addi v608 v609
  v610.toNat
def k0_dev17 (d0 : Dev nD) : Nat :=
  let c0_i32_827 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_826 : BitVec 32 := 4#32
  let v618 : BitVec 32 := Scalar.muli v2 c4_i32_826
  let v619 : BitVec 32 := Scalar.addi c0_i32_827 v618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_828 : BitVec 32 := 2#32
  let v620 : BitVec 32 := Scalar.muli v5 c2_i32_828
  let v621 : BitVec 32 := Scalar.addi v619 v620
  let c1_i32_803 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v604 : BitVec 32 := Scalar.subi c1_i32_803 v8
  let c1_i32_829 : BitVec 32 := 1#32
  let v622 : BitVec 32 := Scalar.muli v604 c1_i32_829
  let v623 : BitVec 32 := Scalar.addi v621 v622
  v623.toNat
def k0_dev18 (d0 : Dev nD) : Nat :=
  let c0_i32_843 : BitVec 32 := 0#32
  let c1_i32_836 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v631 : BitVec 32 := Scalar.subi c1_i32_836 v2
  let c4_i32_842 : BitVec 32 := 4#32
  let v632 : BitVec 32 := Scalar.muli v631 c4_i32_842
  let v633 : BitVec 32 := Scalar.addi c0_i32_843 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_844 : BitVec 32 := 2#32
  let v634 : BitVec 32 := Scalar.muli v5 c2_i32_844
  let v635 : BitVec 32 := Scalar.addi v633 v634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_845 : BitVec 32 := 1#32
  let v636 : BitVec 32 := Scalar.muli v8 c1_i32_845
  let v637 : BitVec 32 := Scalar.addi v635 v636
  v637.toNat
def k0_dev19 (d0 : Dev nD) : Nat :=
  let c0_i32_860 : BitVec 32 := 0#32
  let c1_i32_836 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v631 : BitVec 32 := Scalar.subi c1_i32_836 v2
  let c4_i32_859 : BitVec 32 := 4#32
  let v645 : BitVec 32 := Scalar.muli v631 c4_i32_859
  let v646 : BitVec 32 := Scalar.addi c0_i32_860 v645
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_861 : BitVec 32 := 2#32
  let v647 : BitVec 32 := Scalar.muli v5 c2_i32_861
  let v648 : BitVec 32 := Scalar.addi v646 v647
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_862 : BitVec 32 := 1#32
  let v649 : BitVec 32 := Scalar.muli v8 c1_i32_862
  let v650 : BitVec 32 := Scalar.addi v648 v649
  v650.toNat
def k0_dev20 (d0 : Dev nD) : Nat :=
  let c0_i32_876 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_875 : BitVec 32 := 4#32
  let v659 : BitVec 32 := Scalar.muli v2 c4_i32_875
  let v660 : BitVec 32 := Scalar.addi c0_i32_876 v659
  let c1_i32_869 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v658 : BitVec 32 := Scalar.subi c1_i32_869 v5
  let c2_i32_877 : BitVec 32 := 2#32
  let v661 : BitVec 32 := Scalar.muli v658 c2_i32_877
  let v662 : BitVec 32 := Scalar.addi v660 v661
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_878 : BitVec 32 := 1#32
  let v663 : BitVec 32 := Scalar.muli v8 c1_i32_878
  let v664 : BitVec 32 := Scalar.addi v662 v663
  v664.toNat
def k0_dev21 (d0 : Dev nD) : Nat :=
  let c0_i32_893 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_892 : BitVec 32 := 4#32
  let v672 : BitVec 32 := Scalar.muli v2 c4_i32_892
  let v673 : BitVec 32 := Scalar.addi c0_i32_893 v672
  let c1_i32_869 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v658 : BitVec 32 := Scalar.subi c1_i32_869 v5
  let c2_i32_894 : BitVec 32 := 2#32
  let v674 : BitVec 32 := Scalar.muli v658 c2_i32_894
  let v675 : BitVec 32 := Scalar.addi v673 v674
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_895 : BitVec 32 := 1#32
  let v676 : BitVec 32 := Scalar.muli v8 c1_i32_895
  let v677 : BitVec 32 := Scalar.addi v675 v676
  v677.toNat
def k0_dev22 (d0 : Dev nD) : Nat :=
  let c0_i32_1112_r0 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1111_r0 : BitVec 32 := 4#32
  let v803_r0 : BitVec 32 := Scalar.muli v9 c4_i32_1111_r0
  let v804_r0 : BitVec 32 := Scalar.addi c0_i32_1112_r0 v803_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1113_r0 : BitVec 32 := 2#32
  let v805_r0 : BitVec 32 := Scalar.muli v5 c2_i32_1113_r0
  let v806_r0 : BitVec 32 := Scalar.addi v804_r0 v805_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1114_r0 : BitVec 32 := 1#32
  let v807_r0 : BitVec 32 := Scalar.muli v8 c1_i32_1114_r0
  let v808_r0 : BitVec 32 := Scalar.addi v806_r0 v807_r0
  v808_r0.toNat
def k0_dev23 (d0 : Dev nD) : Nat :=
  let c0_i32_1117_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1116_r0 : BitVec 32 := 4#32
  let v809_r0 : BitVec 32 := Scalar.muli v2 c4_i32_1116_r0
  let v810_r0 : BitVec 32 := Scalar.addi c0_i32_1117_r0 v809_r0
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1118_r0 : BitVec 32 := 2#32
  let v811_r0 : BitVec 32 := Scalar.muli v10 c2_i32_1118_r0
  let v812_r0 : BitVec 32 := Scalar.addi v810_r0 v811_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1119_r0 : BitVec 32 := 1#32
  let v813_r0 : BitVec 32 := Scalar.muli v8 c1_i32_1119_r0
  let v814_r0 : BitVec 32 := Scalar.addi v812_r0 v813_r0
  v814_r0.toNat
def k0_dev24 (d0 : Dev nD) : Nat :=
  let c0_i32_1122_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1121_r0 : BitVec 32 := 4#32
  let v815_r0 : BitVec 32 := Scalar.muli v2 c4_i32_1121_r0
  let v816_r0 : BitVec 32 := Scalar.addi c0_i32_1122_r0 v815_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1123_r0 : BitVec 32 := 2#32
  let v817_r0 : BitVec 32 := Scalar.muli v5 c2_i32_1123_r0
  let v818_r0 : BitVec 32 := Scalar.addi v816_r0 v817_r0
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1124_r0 : BitVec 32 := 1#32
  let v819_r0 : BitVec 32 := Scalar.muli v11 c1_i32_1124_r0
  let v820_r0 : BitVec 32 := Scalar.addi v818_r0 v819_r0
  v820_r0.toNat
abbrev stage0_0 : Fin 1 → Memref sig .tc .vmem S4x32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S4x8x32x8192, .f32⟩
  | .hbm, ⟨6, _⟩ => ⟨S4x8x32x8192, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x8192, .f32⟩
  | .hbm, ⟨11, _⟩ => ⟨S4x8x32x8192, .f32⟩
  | .hbm, ⟨12, _⟩ => ⟨S4x8x32x8192, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x8192, .f32⟩
  | .hbm, ⟨17, _⟩ => ⟨S4x8x32x8192, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Protocol.lean ====
/-
# The exchange of the flash-decoding kernel, as a schedule of duties

Eight devices, numbered `4x + 2y + z`, each reduce their own 1024 keys to a numerator (per head, batch, query row and
lane) and a denominator, then add them up over the cube in three stages. The heads are cut in three parts, `0..2`, `3..5`
and `6..7`; at stage `s` part `p` crosses axis `(p + s) mod 3`, so that the three axes carry traffic at once and after three
stages each part has crossed each axis.

A LANE `l : Fin 6` of a stage is one of its six transfers, in the order they are issued: part `l / 2`, numerator when `l` is
even and denominator when it is odd. The cells:

* the barrier cell of a device: three duties, one per axis, one unit each. The neighbour across axis `a` pays duty `a`, and
  hands over the three landing slots (one per stage) of each kind that the device will write on that neighbour;
* a send cell per stage and lane: one duty, the source's elements back;
* a receive cell per stage and lane: one duty, the landing slot holding the sender's part;
* the exit cell: three duties of one unit, nothing handed over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's rounds, the exchange's with duties named by `Fin 3`, and the counters of the local transfers. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

/-! ## The cube -/

/-- The neighbour of `c` across axis `a`: bit 2, 1 or 0 of the device number flipped. -/
def nbr (a : Fin 3) (c : Dev nD) : Dev nD :=
  if (c.val / 2 ^ (2 - a.val)) % 2 = 0 then ⟨(c.val + 2 ^ (2 - a.val)) % 8, Nat.mod_lt _ (by decide)⟩
  else ⟨(c.val - 2 ^ (2 - a.val)) % 8, Nat.mod_lt _ (by decide)⟩

theorem nbr_nbr (a : Fin 3) (c : Dev nD) : nbr a (nbr a c) = c := by revert a c; decide

def across (a : Fin 3) : Dev nD ≃ Dev nD := ⟨nbr a, nbr a, nbr_nbr a, nbr_nbr a⟩

/-- The axis part `p` crosses at stage `s`. -/
def ax (s p : ℕ) : Fin 3 := ⟨(p + s) % 3, Nat.mod_lt _ (by decide)⟩

/-! ## The cells -/

abbrev barCell (c : Dev nD) : GSem nD τ sig := ((c : Thread nD τ), .reg 0)
abbrev exitCell (c : Dev nD) : GSem nD τ sig := ((c : Thread nD τ), .reg 1)

/-- The semaphore of the send of stage `s`, lane `l`, and of its receive. -/
def sendQ (s : Fin 3) (l : Fin 6) : DmaSem sig := ⟨4 + 18 * (l.val % 2) + 3 * s.val + l.val / 2, by show _ < 40; omega⟩
def recvQ (s : Fin 3) (l : Fin 6) : DmaSem sig := ⟨13 + 18 * (l.val % 2) + 3 * s.val + l.val / 2, by show _ < 40; omega⟩

abbrev sendCell (s : Fin 3) (l : Fin 6) (c : Dev nD) : GSem nD τ sig := ((c : Thread nD τ), .dma (sendQ s l))
abbrev recvCell (s : Fin 3) (l : Fin 6) (c : Dev nD) : GSem nD τ sig := ((c : Thread nD τ), .dma (recvQ s l))

/-- Which transfer a DMA semaphore belongs to: whether it is a receive, its stage, its lane. -/
def laneOf (q : DmaSem sig) : Bool × Fin 3 × Fin 6 :=
  (((q.val - 4) % 18) / 9 == 1, ⟨(((q.val - 4) % 9) / 3) % 3, Nat.mod_lt _ (by decide)⟩,
    ⟨(2 * ((q.val - 4) % 3) + (q.val - 4) / 18) % 6, Nat.mod_lt _ (by decide)⟩)

theorem laneOf_sendQ (s : Fin 3) (l : Fin 6) : laneOf (sendQ s l) = (false, s, l) := by revert s l; decide
theorem laneOf_recvQ (s : Fin 3) (l : Fin 6) : laneOf (recvQ s l) = (true, s, l) := by revert s l; decide

/-- What a lane's transfer credits: three heads or two, of the numerator or of the denominator. -/
def amt (l : Fin 6) : ℕ :=
  if l.val % 2 = 0 then (if l.val < 4 then 6144 else 4096) else (if l.val < 4 then 192 else 128)

theorem amt_pos (l : Fin 6) : 0 < amt l := by revert l; decide

/-! ## The parts of the buffers -/

/-- The elements of part `p` in the numerator, in the denominator; and in the landing buffers, of a stage. -/
def numSet (p : ℕ) : Finset S8x4x32x128.Idx := Finset.univ.filter fun i => (i 0).val / 3 = p
def denSet (p : ℕ) : Finset S8x4x32.Idx := Finset.univ.filter fun i => (i 0).val / 3 = p
def landNumSet (s p : ℕ) : Finset S3x8x4x32x128.Idx := Finset.univ.filter fun i => (i 0).val = s ∧ (i 1).val / 3 = p
def landDenSet (s p : ℕ) : Finset S3x8x4x32.Idx := Finset.univ.filter fun i => (i 0).val = s ∧ (i 1).val / 3 = p

/-! ## The contents -/

abbrev Num (F : FTy → Type) := FVec F S8x4x32x128 .f32
abbrev Den (F : FTy → Type) := FVec F S8x4x32 .f32

/-- What a device holds of a value per device after the exchange of stage `s`: the neighbour's, part by part. -/
def swapN (s : ℕ) (X : Dev nD → Num F) (c : Dev nD) : Num F := fun i => X (nbr (ax s ((i 0).val / 3)) c) i
def swapD (s : ℕ) (X : Dev nD → Den F) (c : Dev nD) : Den F := fun i => X (nbr (ax s ((i 0).val / 3)) c) i

/-- The numerator and denominator of every device entering stage `s`, from those entering stage 0. -/
def accN (X : Dev nD → Num F) : ℕ → Dev nD → Num F
  | 0 => X
  | s + 1 => fun c => addf (accN X s c) (swapN s (accN X s) c)
def accD (X : Dev nD → Den F) : ℕ → Dev nD → Den F
  | 0 => X
  | s + 1 => fun c => addf (accD X s c) (swapD s (accD X s) c)

/-- A landing buffer after all three stages: its slab `s` holds what stage `s` brings. -/
def landN (X : Dev nD → Num F) (c : Dev nD) : FVec F S3x8x4x32x128 .f32 :=
  fun i => swapN (i 0).val (accN X (i 0).val) c (fun a => ⟨(i a.succ).val, (i a.succ).isLt⟩)
def landD (X : Dev nD → Den F) (c : Dev nD) : FVec F S3x8x4x32 .f32 :=
  fun i => swapD (i 0).val (accD X (i 0).val) c (fun a => ⟨(i a.succ).val, (i a.succ).isLt⟩)

/-! ### The block each device reduces -/

/-- The queries, as staged; and the device's 1024 keys and values. -/
def qAt (c : Dev nD) : FVec F S4x32x8x128 .f32 := m ((c : Thread nD τ).loc main_arg0)
def kAt (c : Dev nD) : FVec F S4x1024x8x128 .f32 :=
  ((Memref.whole main_arg1).slice (Rect.unit (s := S4x4096x8x128) (k0_off1 c) S4x1024x8x128.size (k0_off1_inb c)) (fun _ => rfl)).view.read (Elt F)
    (m ((c : Thread nD τ).loc main_arg1))
def vAt (c : Dev nD) : FVec F S4x1024x8x128 .f32 :=
  ((Memref.whole main_arg2).slice (Rect.unit (s := S4x4096x8x128) (k0_off1 c) S4x1024x8x128.size (k0_off1_inb c)) (fun _ => rfl)).view.read (Elt F)
    (m ((c : Thread nD τ).loc main_arg2))

theorem inb_q (h : Fin 8) : ∀ a, (![0, 0, h.val, 0] : Fin 4 → ℕ) a + S4x32x1x128.size a ≤ S4x32x8x128.size a := by revert h; decide
theorem inb_k (h : Fin 8) : ∀ a, (![0, 0, h.val, 0] : Fin 4 → ℕ) a + S4x1024x1x128.size a ≤ S4x1024x8x128.size a := by revert h; decide

/-- Head `h` of a block of queries, and of a block of keys or values. -/
def qHead (q : FVec F S4x32x8x128 .f32) (h : Fin 8) : FVec F S4x32x1x128 .f32 :=
  (Memref.whole cc0_stg0_0).view.readAt (Elt F) (Rect.unit (s := S4x32x8x128) ![0, 0, h.val, 0] S4x32x1x128.size (inb_q h)).toLoadRect q
def kHead (k : FVec F S4x1024x8x128 .f32) (h : Fin 8) : FVec F S4x1024x1x128 .f32 :=
  (Memref.whole cc0_scratch0).view.readAt (Elt F) (Rect.unit (s := S4x1024x8x128) ![0, 0, h.val, 0] S4x1024x1x128.size (inb_k h)).toLoadRect k
def vHead (v : FVec F S4x1024x8x128 .f32) (h : Fin 8) : FVec F S4x1024x1x128 .f32 :=
  (Memref.whole cc0_scratch1).view.readAt (Elt F) (Rect.unit (s := S4x1024x8x128) ![0, 0, h.val, 0] S4x1024x1x128.size (inb_k h)).toLoadRect v

/-- One head's rows of the numerator and of the denominator: the skeleton's payloads. -/
def numHead (c : Dev nD) (h : Fin 8) : FVec F S1x4x32x128 .f32 :=
  k0_pay14 (qHead (qAt m c) h) (kHead (kAt m c) h) (vHead (vAt m c) h)
def denHead (c : Dev nD) (h : Fin 8) : FVec F S1x4x32 .f32 := k0_pay13 (qHead (qAt m c) h) (kHead (kAt m c) h)

/-- The device's numerator and denominator before the exchange. -/
def num0 (c : Dev nD) : Num F := fun i => numHead m c (i 0) (fun a => match a with | 0 => (0 : Fin 1) | 1 => i 1 | 2 => i 2 | 3 => i 3)
def den0 (c : Dev nD) : Den F := fun i => denHead m c (i 0) (fun a => match a with | 0 => (0 : Fin 1) | 1 => i 1 | 2 => i 2)

/-! ## The pieces of memory that change hands -/

/-- The source of stage `s`, lane `l` on `c`: its part of the numerator or denominator entering stage `s`. -/
def srcP (s : Fin 3) (l : Fin 6) (c : Dev nD) : sProp 𝕄 :=
  if l.val % 2 = 0 then ((c : Thread nD τ).loc cc0_scratch2) ↦[numSet (l.val / 2)]{fullShare} accN (num0 m) s c
  else ((c : Thread nD τ).loc cc0_scratch3) ↦[denSet (l.val / 2)]{fullShare} accD (den0 m) s c
/-- The landing slot of stage `s`, lane `l` on `c`, once landed. -/
def landP (s : Fin 3) (l : Fin 6) (c : Dev nD) : sProp 𝕄 :=
  if l.val % 2 = 0 then ((c : Thread nD τ).loc cc0_scratch4) ↦[landNumSet s (l.val / 2)]{fullShare} landN (num0 m) c
  else ((c : Thread nD τ).loc cc0_scratch5) ↦[landDenSet s (l.val / 2)]{fullShare} landD (den0 m) c
/-- The same slot at any contents. -/
def slotP (s : Fin 3) (l : Fin 6) (c : Dev nD) : sProp 𝕄 :=
  if l.val % 2 = 0 then iprop(∃ f, ((c : Thread nD τ).loc cc0_scratch4) ↦[landNumSet s (l.val / 2)]{fullShare} f)
  else iprop(∃ f, ((c : Thread nD τ).loc cc0_scratch5) ↦[landDenSet s (l.val / 2)]{fullShare} f)

omit [FloatOps F] in
instance slotP_storable (s : Fin 3) (l : Fin 6) (c : Dev nD) : BI.Storable (upEmb : UEmb _ 𝕄) (slotP (F := F) s l c) := by
  unfold slotP; split <;> infer_instance
instance srcP_storable (s : Fin 3) (l : Fin 6) (c : Dev nD) : BI.Storable (upEmb : UEmb _ 𝕄) (srcP (F := F) m s l c) := by
  unfold srcP; split <;> infer_instance
instance landP_storable (s : Fin 3) (l : Fin 6) (c : Dev nD) : BI.Storable (upEmb : UEmb _ 𝕄) (landP (F := F) m s l c) := by
  unfold landP; split <;> infer_instance

/-- The lane of kind `b` (0 the numerator's, 1 the denominator's) that crosses axis `a` at stage `s`. -/
def laneAt (a s : Fin 3) (b : Fin 2) : Fin 6 := ⟨2 * ((a.val + 2 * s.val) % 3) + b.val, by omega⟩

/-- What the neighbour of `c` across axis `a` hands `c` at the barrier: its slots that `c` writes. -/
def barPay (c : Dev nD) (a : Fin 3) : sProp 𝕄 :=
  bigSep Finset.univ fun sb : Fin 3 × Fin 2 => slotP sb.1 (laneAt a sb.1 sb.2) (nbr a c)

def dmaPay (c : Dev nD) : Bool × Fin 3 × Fin 6 → sProp 𝕄
  | (false, s, l) => srcP m s l c
  | (true, s, l) => landP m s l c

/-! ## The schedule -/

/-- One round: a counting cell has three duties of one unit, a transfer's cell the duty `0` of the transfer's amount. -/
def sched : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => amt (laneOf q).2.2
  payload g _ d := match g.2 with
    | .reg q => if q = 0 then barPay g.1.1 d else iprop(emp)
    | .dma q => dmaPay m g.1.1 (laneOf q)
  amount_pos g _ _ _ := by
    show 0 < (match g.2 with | .reg _ => 1 | .dma q => amt (laneOf q).2.2)
    split
    · exact Nat.one_pos
    · exact amt_pos _

instance sched_payload_storable (g : GSem nD τ sig) (r : ℕ) (d : Fin 3) :
    BI.Storable (upEmb : UEmb _ 𝕄) ((sched (F := F) m).payload g r d) := by
  dsimp only [sched]
  split
  · split
    · unfold barPay; infer_instance
    · infer_instance
  · rename_i q _
    rcases h : laneOf q with ⟨b, s, l⟩
    cases b <;> (dsimp only [dmaPay]; infer_instance)

section Facts
variable (c : Dev nD) (s : Fin 3) (l : Fin 6)

omit [FloatOps F]
variable [FloatOps F]

theorem duties_reg (q : Sem sig) : (sched (F := F) m).duties ((c : Thread nD τ), .reg q) 0 = Finset.univ := by
  dsimp only [sched]; exact if_pos ⟨rfl, rfl⟩
theorem duties_dma (q : DmaSem sig) : (sched (F := F) m).duties ((c : Thread nD τ), .dma q) 0 = {0} := by
  dsimp only [sched]; exact if_pos ⟨rfl, rfl⟩
theorem duties_later (g : GSem nD τ sig) : ∀ r, 1 ≤ r → (sched (F := F) m).duties g r = ∅ := fun r hr => by
  dsimp only [sched]; exact if_neg fun h => by omega

theorem amount_dma (q : DmaSem sig) (d : Fin 3) : (sched (F := F) m).amount ((c : Thread nD τ), .dma q) 0 d = amt (laneOf q).2.2 := rfl
theorem amount_reg (q : Sem sig) (d : Fin 3) : (sched (F := F) m).amount ((c : Thread nD τ), .reg q) 0 d = 1 := rfl

theorem expect_reg (q : Sem sig) : (sched (F := F) m).expect ((c : Thread nD τ), .reg q) 0 = 3 := by
  unfold Schedule.expect Schedule.amountOf
  rw [duties_reg, Finset.sum_congr rfl fun d _ => amount_reg m c q d]; rfl
theorem expect_dma (q : DmaSem sig) : (sched (F := F) m).expect ((c : Thread nD τ), .dma q) 0 = amt (laneOf q).2.2 := by
  unfold Schedule.expect Schedule.amountOf
  rw [duties_dma, Finset.sum_singleton, amount_dma]

theorem payload_bar (a : Fin 3) : (sched (F := F) m).payload (barCell c) 0 a = barPay c a := rfl
theorem payload_exit (a : Fin 3) : (sched (F := F) m).payload (exitCell c) 0 a = iprop(emp) := rfl
theorem payload_dma (q : DmaSem sig) (d : Fin 3) : (sched (F := F) m).payload ((c : Thread nD τ), .dma q) 0 d = dmaPay m c (laneOf q) := rfl
theorem payload_send (d : Fin 3) : (sched (F := F) m).payload (sendCell s l c) 0 d = srcP m s l c := by rw [payload_dma, laneOf_sendQ]; rfl
theorem payload_recv (d : Fin 3) : (sched (F := F) m).payload (recvCell s l c) 0 d = landP m s l c := by rw [payload_dma, laneOf_recvQ]; rfl

end Facts

/-! ## What each device owes, in the order it pays -/

/-- Payment `j` of a device: 0–2 the barrier signals, 3–20 the transfers' receive credits, 21–23 the exit signals —
    on which semaphore, across which axis, how much, under which duty. -/
def paySem (j : Fin 24) : SemLoc sig :=
  if j.val < 3 then .reg 0
  else if h : j.val < 21 then .dma (recvQ ⟨(j.val - 3) / 6, by omega⟩ ⟨(j.val - 3) % 6, by omega⟩)
  else .reg 1
def payAx (j : Fin 24) : Fin 3 :=
  if j.val < 3 then ⟨j.val % 3, Nat.mod_lt _ (by decide)⟩
  else if j.val < 21 then ax ((j.val - 3) / 6) ((j.val - 3) % 6 / 2)
  else ⟨j.val % 3, Nat.mod_lt _ (by decide)⟩
def payAmt (j : Fin 24) : ℕ :=
  if h : 3 ≤ j.val ∧ j.val < 21 then amt ⟨(j.val - 3) % 6, by omega⟩ else 1
def payDuty (j : Fin 24) : Fin 3 := if 3 ≤ j.val ∧ j.val < 21 then 0 else payAx j

abbrev payCell (c : Dev nD) (j : Fin 24) : GSem nD τ sig := ((nbr (payAx j) c : Thread nD τ), paySem j)

/-- What is still owed when the last `k` payments are due: the next one is the last summand. -/
def rem (c : Dev nD) : ℕ → CellTallies nD τ sig Unit
  | 0 => 0
  | k + 1 => rem c k + (if h : k < 24 then tallyAt (payCell c ⟨23 - k, by omega⟩) () (payAmt ⟨23 - k, by omega⟩) else 0)

def L (g : GSem nD τ sig) : Finset Unit := if g.1.2 = .tc then {()} else ∅
/-- The order of the waits: staging, local and send cells, then the barrier, the three stages' receives, the exit. -/
def levOf : SemLoc sig → ℕ
  | .reg q => if q.val = 0 then 1 else 5
  | .dma q => if q.val < 4 then 0 else if (laneOf q).1 then 2 + (laneOf q).2.1.val else 0
def lv (g : GSem nD τ sig) (_ : Unit) : ℕ := levOf g.2

theorem L_of_ne (g : GSem nD τ sig) (h : g.1.2 ≠ .tc) : L g = ∅ := if_neg h
theorem L_tc (c : Dev nD) (sm : SemLoc sig) : L ((c : Thread nD τ), sm) = {()} := if_pos rfl

theorem rem_pos {c : Dev nD} {g : GSem nD τ sig} {u : Unit} {k : ℕ} (h : 0 < rem c k g u) :
    ∃ j : Fin 24, 23 < j.val + k ∧ g = payCell c j := by
  induction k with
  | zero => exact absurd h (Nat.lt_irrefl 0)
  | succ k ih =>
    rw [rem, Pi.add_apply, Finsupp.add_apply] at h
    by_cases hk : 0 < rem c k g u
    · obtain ⟨j, hj, hg⟩ := ih hk
      exact ⟨j, by omega, hg⟩
    · by_cases h24 : k < 24
      · rw [dif_pos h24, tallyAt_apply] at h
        by_cases hc : g = payCell c ⟨23 - k, by omega⟩ ∧ u = ()
        · exact ⟨⟨23 - k, by omega⟩, by simp only; omega, hc.1⟩
        · rw [if_neg hc] at h; omega
      · rw [dif_neg h24] at h
        exact absurd h (by simp only [Pi.zero_apply, Finsupp.zero_apply]; omega)

omit [FloatOps F] in
/-- A device may wait on a semaphore whose level is below those of all the payments still due. -/
theorem mayWait (c : Dev nD) (sm : SemLoc sig) (k : ℕ) (hlt : ∀ j : Fin 24, 23 < j.val + k → levOf sm < levOf (paySem j)) :
    (levAts L lv : sProp 𝕄) ⊢ MayWait (c : Thread nD τ) sm () (rem c k) :=
  MayOwe.of_cut (L := L) (lev := lv) (levOf sm)
    (fun p hp => by rw [Finset.mem_singleton.mp hp, L_tc]; exact Finset.mem_singleton_self _)
    (fun g u hg => by obtain ⟨j, _, rfl⟩ := rem_pos hg; exact Finset.mem_singleton_self _)
    (fun p hp => by rw [Finset.mem_singleton.mp hp]; exact le_refl _)
    (fun g u hg => by obtain ⟨j, hj, rfl⟩ := rem_pos hg; exact hlt j hj)

end Cert.KernelIdealRun

end
-- ==== Proof.KernelIdeal.Pieces.lean ====
/-
# The slices the transfers move, element by element

Each transfer's source is a run of heads of the numerator or of the denominator, its target the same run of heads of one
stage's slab of a landing buffer. Here: the elements a slice holds, and what the landing buffer holds there once written.
-/
module

public import proofs.«01_k».proof.Proof.KernelIdeal.Protocol

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- How many heads part `p` has. -/
abbrev IsPart (p n : ℕ) : Prop := (p < 2 ∧ n = 3) ∨ (p = 2 ∧ n = 2)

section Slices
variable {lo n s p : ℕ}

/-- `n` heads from head `lo` on, of the numerator and of the denominator. -/
abbrev srcNum (inb : ∀ a, (![lo, 0, 0, 0] : Fin 4 → ℕ) a + (⟨4, ![n, 4, 32, 128]⟩ : Shape).size a ≤ S8x4x32x128.size a) :
    Memref sig .tc .vmem ⟨4, ![n, 4, 32, 128]⟩ .f32 :=
  (Memref.whole cc0_scratch2).slice (Rect.unit (s := S8x4x32x128) ![lo, 0, 0, 0] (⟨4, ![n, 4, 32, 128]⟩ : Shape).size inb) (fun _ => rfl)
abbrev srcDen (inb : ∀ a, (![lo, 0, 0] : Fin 3 → ℕ) a + (⟨3, ![n, 4, 32]⟩ : Shape).size a ≤ S8x4x32.size a) :
    Memref sig .tc .vmem ⟨3, ![n, 4, 32]⟩ .f32 :=
  (Memref.whole cc0_scratch3).slice (Rect.unit (s := S8x4x32) ![lo, 0, 0] (⟨3, ![n, 4, 32]⟩ : Shape).size inb) (fun _ => rfl)
/-- The same heads of slab `s` of a landing buffer. -/
abbrev dstNum (inb : ∀ a, (![s, lo, 0, 0, 0] : Fin 5 → ℕ) a + (⟨5, ![1, n, 4, 32, 128]⟩ : Shape).size a ≤ S3x8x4x32x128.size a)
    (hq : (⟨5, ![1, n, 4, 32, 128]⟩ : Shape).Squeezes ⟨4, ![n, 4, 32, 128]⟩) : Memref sig .tc .vmem ⟨4, ![n, 4, 32, 128]⟩ .f32 :=
  ((Memref.whole cc0_scratch4).slice (Rect.unit (s := S3x8x4x32x128) ![s, lo, 0, 0, 0] (⟨5, ![1, n, 4, 32, 128]⟩ : Shape).size inb)
    (fun _ => rfl)).squeeze ⟨4, ![n, 4, 32, 128]⟩ hq
abbrev dstDen (inb : ∀ a, (![s, lo, 0, 0] : Fin 4 → ℕ) a + (⟨4, ![1, n, 4, 32]⟩ : Shape).size a ≤ S3x8x4x32.size a)
    (hq : (⟨4, ![1, n, 4, 32]⟩ : Shape).Squeezes ⟨3, ![n, 4, 32]⟩) : Memref sig .tc .vmem ⟨3, ![n, 4, 32]⟩ .f32 :=
  ((Memref.whole cc0_scratch5).slice (Rect.unit (s := S3x8x4x32) ![s, lo, 0, 0] (⟨4, ![1, n, 4, 32]⟩ : Shape).size inb)
    (fun _ => rfl)).squeeze ⟨3, ![n, 4, 32]⟩ hq

theorem srcNum_set (inb) (hp : IsPart p n) (hlo : lo = 3 * p) : (srcNum (lo := lo) (n := n) inb).view.set = numSet p := by
  show ((View.whole cc0_scratch2).slice _).set = _
  rw [View.set_slice_whole]
  ext i
  rw [Rect.mem_set_unit, numSet, Finset.mem_filter]
  have h0 : (i 0).val < 8 := (i 0).isLt
  constructor
  · intro h
    have := h 0
    refine ⟨Finset.mem_univ _, ?_⟩
    change lo ≤ (i 0).val ∧ (i 0).val < lo + n at this
    omega
  · rintro ⟨-, h⟩ a
    fin_cases a
    · show lo ≤ (i 0).val ∧ (i 0).val < lo + n; omega
    · exact ⟨Nat.zero_le _, lt_of_lt_of_eq (i 1).isLt (Nat.zero_add _).symm⟩
    · exact ⟨Nat.zero_le _, lt_of_lt_of_eq (i 2).isLt (Nat.zero_add _).symm⟩
    · exact ⟨Nat.zero_le _, lt_of_lt_of_eq (i 3).isLt (Nat.zero_add _).symm⟩

theorem srcDen_set (inb) (hp : IsPart p n) (hlo : lo = 3 * p) : (srcDen (lo := lo) (n := n) inb).view.set = denSet p := by
  show ((View.whole cc0_scratch3).slice _).set = _
  rw [View.set_slice_whole]
  ext i
  rw [Rect.mem_set_unit, denSet, Finset.mem_filter]
  have h0 : (i 0).val < 8 := (i 0).isLt
  constructor
  · intro h
    have := h 0
    refine ⟨Finset.mem_univ _, ?_⟩
    change lo ≤ (i 0).val ∧ (i 0).val < lo + n at this
    omega
  · rintro ⟨-, h⟩ a
    fin_cases a
    · show lo ≤ (i 0).val ∧ (i 0).val < lo + n; omega
    · exact ⟨Nat.zero_le _, lt_of_lt_of_eq (i 1).isLt (Nat.zero_add _).symm⟩
    · exact ⟨Nat.zero_le _, lt_of_lt_of_eq (i 2).isLt (Nat.zero_add _).symm⟩

theorem dstNum_set (inb hq) (hp : IsPart p n) (hlo : lo = 3 * p) : (dstNum (lo := lo) (n := n) (s := s) inb hq).view.set = landNumSet s p := by
  show (((View.whole cc0_scratch4).slice _).reshape _ _).set = _
  rw [View.set_reshape, View.set_slice_whole]
  ext i
  rw [Rect.mem_set_unit, landNumSet, Finset.mem_filter]
  have h1 : (i 1).val < 8 := (i 1).isLt
  constructor
  · intro h
    have h0 := h 0
    have h1 := h 1
    refine ⟨Finset.mem_univ _, ?_⟩
    change s ≤ (i 0).val ∧ (i 0).val < s + 1 at h0
    change lo ≤ (i 1).val ∧ (i 1).val < lo + n at h1
    omega
  · rintro ⟨-, h0, h⟩ a
    fin_cases a
    · show s ≤ (i 0).val ∧ (i 0).val < s + 1; omega
    · show lo ≤ (i 1).val ∧ (i 1).val < lo + n; omega
    · exact ⟨Nat.zero_le _, lt_of_lt_of_eq (i 2).isLt (Nat.zero_add _).symm⟩
    · exact ⟨Nat.zero_le _, lt_of_lt_of_eq (i 3).isLt (Nat.zero_add _).symm⟩
    · exact ⟨Nat.zero_le _, lt_of_lt_of_eq (i 4).isLt (Nat.zero_add _).symm⟩

theorem dstDen_set (inb hq) (hp : IsPart p n) (hlo : lo = 3 * p) : (dstDen (lo := lo) (n := n) (s := s) inb hq).view.set = landDenSet s p := by
  show (((View.whole cc0_scratch5).slice _).reshape _ _).set = _
  rw [View.set_reshape, View.set_slice_whole]
  ext i
  rw [Rect.mem_set_unit, landDenSet, Finset.mem_filter]
  have h1 : (i 1).val < 8 := (i 1).isLt
  constructor
  · intro h
    have h0 := h 0
    have h1 := h 1
    refine ⟨Finset.mem_univ _, ?_⟩
    change s ≤ (i 0).val ∧ (i 0).val < s + 1 at h0
    change lo ≤ (i 1).val ∧ (i 1).val < lo + n at h1
    omega
  · rintro ⟨-, h0, h⟩ a
    fin_cases a
    · show s ≤ (i 0).val ∧ (i 0).val < s + 1; omega
    · show lo ≤ (i 1).val ∧ (i 1).val < lo + n; omega
    · exact ⟨Nat.zero_le _, lt_of_lt_of_eq (i 2).isLt (Nat.zero_add _).symm⟩
    · exact ⟨Nat.zero_le _, lt_of_lt_of_eq (i 3).isLt (Nat.zero_add _).symm⟩

/-- What a numerator's transfer leaves in the slot it writes, on the receiver across the part's axis. -/
theorem dstNum_written (X : Dev nD → Num F) (inb inb' hq) (hp : IsPart p n) (hlo : lo = 3 * p) (c : Dev nD)
    (fd : (cc0_scratch4 : Ref sig .tc).ty.Contents (Elt F)) (i : S3x8x4x32x128.Idx) (hi : i ∈ landNumSet s p) :
    (dstNum (lo := lo) (n := n) (s := s) inb hq).view.write (Elt F) fd ((srcNum (lo := lo) (n := n) inb').view.read (Elt F) (accN X s c)) Finset.univ i
      = landN X (nbr (ax s p) c) i := by
  have hset := dstNum_set (s := s) inb hq hp hlo
  obtain ⟨x, -, hx⟩ := Finset.mem_map.mp (hset ▸ hi)
  have hx0 : (x 0).val < n := (x 0).isLt
  have hmem := (Finset.mem_filter.mp hi).2
  have hval : ∀ a : Fin 5, (i a).val = match a with | 0 => s | 1 => lo + (x 0).val | 2 => (x 1).val | 3 => (x 2).val | 4 => (x 3).val := by
    intro a
    rw [← hx]
    show (((Rect.unit (s := S3x8x4x32x128) ![s, lo, 0, 0, 0] (⟨5, ![1, n, 4, 32, 128]⟩ : Shape).size inb).emb (Shape.reshapeEquiv _ x)) a).val = _
    rw [Shape.reshapeEquiv_cons_one]
    fin_cases a
    · show s + 1 * 0 = s; omega
    · show lo + 1 * (x 0).val = lo + (x 0).val; omega
    · show 0 + 1 * (x 1).val = (x 1).val; omega
    · show 0 + 1 * (x 2).val = (x 2).val; omega
    · show 0 + 1 * (x 3).val = (x 3).val; omega
  rw [← hx, View.write_emb_of_mem _ _ (Finset.mem_univ x), hx]
  have h0 : (i 0).val = s := hval 0
  have h1 : (i 1).val / 3 = p := hmem.2
  show accN X s c ((Rect.unit (s := S8x4x32x128) ![lo, 0, 0, 0] (⟨4, ![n, 4, 32, 128]⟩ : Shape).size inb').emb x)
    = accN X (i 0).val (nbr (ax (i 0).val ((i 1).val / 3)) (nbr (ax s p) c)) _
  rw [h0, h1, nbr_nbr]
  congr 1
  funext a
  refine Fin.ext ?_
  show _ = (i a.succ).val
  rw [hval a.succ]
  fin_cases a
  · show lo + 1 * (x 0).val = lo + (x 0).val; omega
  · show 0 + 1 * (x 1).val = (x 1).val; omega
  · show 0 + 1 * (x 2).val = (x 2).val; omega
  · show 0 + 1 * (x 3).val = (x 3).val; omega

/-- The same of a denominator's transfer. -/
theorem dstDen_written (X : Dev nD → Den F) (inb inb' hq) (hp : IsPart p n) (hlo : lo = 3 * p) (c : Dev nD)
    (fd : (cc0_scratch5 : Ref sig .tc).ty.Contents (Elt F)) (i : S3x8x4x32.Idx) (hi : i ∈ landDenSet s p) :
    (dstDen (lo := lo) (n := n) (s := s) inb hq).view.write (Elt F) fd ((srcDen (lo := lo) (n := n) inb').view.read (Elt F) (accD X s c)) Finset.univ i
      = landD X (nbr (ax s p) c) i := by
  have hset := dstDen_set (s := s) inb hq hp hlo
  obtain ⟨x, -, hx⟩ := Finset.mem_map.mp (hset ▸ hi)
  have hmem := (Finset.mem_filter.mp hi).2
  have hval : ∀ a : Fin 4, (i a).val = match a with | 0 => s | 1 => lo + (x 0).val | 2 => (x 1).val | 3 => (x 2).val := by
    intro a
    rw [← hx]
    show (((Rect.unit (s := S3x8x4x32) ![s, lo, 0, 0] (⟨4, ![1, n, 4, 32]⟩ : Shape).size inb).emb (Shape.reshapeEquiv _ x)) a).val = _
    rw [Shape.reshapeEquiv_cons_one]
    fin_cases a
    · show s + 1 * 0 = s; omega
    · show lo + 1 * (x 0).val = lo + (x 0).val; omega
    · show 0 + 1 * (x 1).val = (x 1).val; omega
    · show 0 + 1 * (x 2).val = (x 2).val; omega
  rw [← hx, View.write_emb_of_mem _ _ (Finset.mem_univ x), hx]
  have h0 : (i 0).val = s := hval 0
  have h1 : (i 1).val / 3 = p := hmem.2
  show accD X s c ((Rect.unit (s := S8x4x32) ![lo, 0, 0] (⟨3, ![n, 4, 32]⟩ : Shape).size inb').emb x)
    = accD X (i 0).val (nbr (ax (i 0).val ((i 1).val / 3)) (nbr (ax s p) c)) _
  rw [h0, h1, nbr_nbr]
  congr 1
  funext a
  refine Fin.ext ?_
  show _ = (i a.succ).val
  rw [hval a.succ]
  fin_cases a
  · show lo + 1 * (x 0).val = lo + (x 0).val; omega
  · show 0 + 1 * (x 1).val = (x 1).val; omega
  · show 0 + 1 * (x 2).val = (x 2).val; omega

end Slices

end Cert.KernelIdealRun

end
-- ==== Proof.KernelIdeal.Moves.lean ====
/-
# The steps of the exchange, one lemma each

A signal, a wait for three signals, a transfer and the wait for one end of a transfer, over what a device holds at that step;
and the two kinds of run they make: the six transfers of a stage, one after another, and the twelve waits that follow.
-/
module

public import proofs.«01_k».proof.Proof.KernelIdeal.Pieces

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What everyone knows -/

/-- The cells of a device: the barrier's, the exit's and the transfers'. -/
def csem (k : Fin 38) : SemLoc sig :=
  if k.val = 0 then .reg 0 else if k.val = 1 then .reg 1 else .dma ⟨k.val + 2, by have := k.isLt; show _ < 40; omega⟩

/-- A cell's invariant, at some name, and that its first round is reached. -/
def known (c : Dev nD) (sm : SemLoc sig) : sProp 𝕄 :=
  iprop(∃ κ, cellInv ER (sched m) κ ((c : Thread nD τ), sm) ∗ reached ER ((c : Thread nD τ), sm) 0)

instance known_persistent (c : Dev nD) (sm : SemLoc sig) : BI.Persistent (known m c sm) := by unfold known; infer_instance

/-- Those of all the cells. -/
def records : sProp 𝕄 := bigSep Finset.univ fun ck : Dev nD × Fin 38 => known m ck.1 (csem ck.2)

instance records_persistent : BI.Persistent (records m) := by unfold records; infer_instance

theorem records_reg (c : Dev nD) (q : Sem sig) : records m ⊢ known m c (.reg q) := by
  have h : csem ⟨q.val, lt_trans q.isLt (by decide)⟩ = .reg q := by revert q; decide
  unfold records
  refine (bigSep_elim (i := (c, ⟨q.val, lt_trans q.isLt (by decide)⟩)) (Finset.mem_univ _)).trans ?_
  rw [h]; exact BI.Entails.refl _

theorem records_dma (c : Dev nD) (q : DmaSem sig) (hq : 4 ≤ q.val) : records m ⊢ known m c (.dma q) := by
  have h40 : q.val < 40 := q.isLt
  have h : csem ⟨q.val - 2, by omega⟩ = .dma q := by
    unfold csem
    rw [if_neg (by simp only; omega), if_neg (by simp only; omega)]
    congr 1
    exact Fin.ext (by simp only; omega)
  unfold records
  refine (bigSep_elim (i := (c, ⟨q.val - 2, by omega⟩)) (Finset.mem_univ _)).trans ?_
  rw [h]; exact BI.Entails.refl _

/-- What a device owes, whatever it has waited for. -/
def owesE (c : Dev nD) (O : CellTallies nD τ sig Unit) : sProp 𝕄 := iprop(∃ W, owes (c : Thread nD τ) O W)

/-- The program `k` on device `c`, run to `Q`. -/
abbrev run {α : Type} (c : Dev nD) (k : Prog (TpuEff nD τ sig (Elt F) Λ₀ .tc) α) (Q : α → sProp 𝕄) : sProp 𝕄 :=
  wp frame (wpE (defs₀ (F := F)) 𝒱₀ (c : Thread nD τ) none) Set.univ k Q

theorem run_ret {α : Type} (c : Dev nD) (a : α) (Q : α → sProp 𝕄) : Q a ⊢ run c (.ret a) Q := by
  unfold run
  iintro H
  rw [wp_ret]; imodintro
  iexact H

section Steps

/-- A signal to the neighbour across axis `a`: one unit owed is paid, and what the duty hands over goes with it. -/
theorem wp_sig {α : Type} {Q : α → sProp 𝕄} {k : PUnit → Prog (TpuEff nD τ sig (Elt F) Λ₀ .tc) α} (c n : Dev nD) (a : Fin 3) (hn : n = nbr a c) (q : Sem sig) (u : ℕ) (hu : u = 1)
    (O O' : CellTallies nD τ sig Unit) (hO : O = O' + tallyAt ((nbr a c : Thread nD τ), .reg q) () 1) :
    iprop(records m ∗ owesE c O ∗ dutyTok ER ((nbr a c : Thread nD τ), .reg q) 0 a
        ∗ (sched m).payload ((nbr a c : Thread nD τ), .reg q) 0 a)
      ⊢ iprop((owesE c O' -∗ run c (k ⟨⟩) Q) -∗ run c (.op (.semSignal (n : Thread nD τ) q u) k) Q) := by
  subst hn hu
  unfold owesE
  iintro ⟨#HR, ⟨%W, HO⟩, Htok, Hpay⟩
  ihave #Hkn := (records_reg m (nbr a c) q) $$ HR
  unfold known
  icases Hkn with ⟨%κ, #Hinv, #Hr⟩
  iintro Hk
  iapply (Rounds.wp_signal 𝒱₀ ER (sched m) (c : Thread nD τ) none (dst := (nbr a c : Thread nD τ)) (κ := κ)
      (d := a) (by rw [duties_reg]; exact Finset.mem_univ _) (amount_reg m (nbr a c) q a) () O' hO) $$ [HO Htok Hpay]
  · isplitr; · iexact Hinv
    isplitl [HO]; · iexact HO
    isplitl [Htok]; · iexact Htok
    isplitl [Hpay]; · iexact Hpay
    iexact Hr
  iintro HO
  iapply Hk
  iexists W; iexact HO

/-- The wait for the three signals of a counting cell: what they hand over, and the cell's counter back at zero. -/
theorem wp_wait3 {α : Type} {Q : α → sProp 𝕄} {k : PUnit → Prog (TpuEff nD τ sig (Elt F) Λ₀ .tc) α} (c : Dev nD) (q : Sem sig) (u j : ℕ) (hu : u = 3)
    (hlt : ∀ i : Fin 24, 23 < i.val + j → levOf (.reg q) < levOf (paySem i)) :
    iprop(records m ∗ levAts L lv ∗ owesE c (rem c j) ∗ cred (tallyAt ((c : Thread nD τ), .reg q) () 3)
        ∗ atPos ER ((c : Thread nD τ), .reg q) 0 ∅ 0)
      ⊢ iprop(((owesE c (rem c j) ∗ semVal ((c : Thread nD τ), .reg q) 0
            ∗ bigSep Finset.univ (fun a : Fin 3 => (sched m).payload ((c : Thread nD τ), .reg q) 0 a)) -∗ run c (k ⟨⟩) Q)
          -∗ run c (.op (.semWait q u) k) Q) := by
  subst hu
  unfold owesE
  iintro ⟨#HR, #Hlev, ⟨%W, HO⟩, Hc, Hat⟩
  ihave #Hkn := (records_reg m c q) $$ HR
  unfold known
  icases Hkn with ⟨%κ, #Hinv, #Hr⟩
  iintro Hk
  iapply (Rounds.wp_wait_rest_token 𝒱₀ ER (sched m) (c : Thread nD τ) none (κ := κ)
      (wpE_semWait_eq 𝒱₀ (c : Thread nD τ) none Set.univ) (Set.mem_univ _) () (O := rem c j) (W := W) (R := 0) (m := 0) (T := ∅)
      (by rw [Nat.zero_add, expect_reg])) $$ [Hc HO Hat]
  · isplitr; · iexact Hinv
    isplitl [Hc]; · iexact Hc
    isplitl [HO]; · iexact HO
    isplitr; · iapply (mayWait c (.reg q) j hlt); iexact Hlev
    iexact Hat
  iintro ⟨HO, Hat, -, Hpay⟩
  rw [Finset.sdiff_empty, duties_reg]
  imod (Rounds.cell_close ER (sched m) (Set.mem_univ κ) (fun h => h) (R := 0 + 1) (duties_later m ((c : Thread nD τ), .reg q))) $$ [Hat] with Hz
  · isplitr; · iexact Hinv
    iexact Hat
  iapply Hk
  isplitl [HO]; · iexists _; iexact HO
  isplitl [Hz]; · iexact Hz
  iexact Hpay

theorem rest_dma (c : Dev nD) (q : DmaSem sig) :
    bigSep ((sched (F := F) m).duties ((c : Thread nD τ), .dma q) 0 \ ∅) (fun d => (sched (F := F) m).payload ((c : Thread nD τ), .dma q) 0 d)
      = dmaPay m c (laneOf q) := by
  rw [Finset.sdiff_empty, duties_dma, bigSep_singleton, payload_dma]

/-- The wait for one end of a transfer. -/
theorem wp_waitLane {α : Type} {Q : α → sProp 𝕄} {k : PUnit → Prog (TpuEff nD τ sig (Elt F) Λ₀ .tc) α} (c : Dev nD) (q : DmaSem sig) (hq : 4 ≤ q.val) {sp sp' : Space} {s s' : Shape} {e e' : EltTy}
    (src : Memref sig .tc sp' s' e') (dst : Memref sig .tc sp s e) (hsrc : src.view.WordExact) (hdst : dst.view.WordExact)
    (j : ℕ) (hamt : dst.view.dmaCredit = amt (laneOf q).2.2)
    (hlt : ∀ i : Fin 24, 23 < i.val + j → levOf (.dma q) < levOf (paySem i)) :
    iprop(records m ∗ levAts L lv ∗ owesE c (rem c j) ∗ cred (tallyAt ((c : Thread nD τ), .dma q) () (amt (laneOf q).2.2))
        ∗ atPos ER ((c : Thread nD τ), .dma q) 0 ∅ 0)
      ⊢ iprop(((owesE c (rem c j) ∗ semVal ((c : Thread nD τ), .dma q) 0 ∗ dmaPay m c (laneOf q)) -∗ run c (k ⟨⟩) Q)
          -∗ run c (.op (.waitDma2 q src dst hsrc hdst) k) Q) := by
  unfold owesE
  iintro ⟨#HR, #Hlev, ⟨%W, HO⟩, Hc, Hat⟩
  ihave #Hkn := (records_dma m c q hq) $$ HR
  unfold known
  icases Hkn with ⟨%κ, #Hinv, #Hr⟩
  iintro Hk
  rw [← hamt]
  iapply (Rounds.wp_wait_rest_token 𝒱₀ ER (sched m) (c : Thread nD τ) none (κ := κ)
      (wpE_waitDma2_eq 𝒱₀ (c : Thread nD τ) none Set.univ) (Set.mem_univ _) () (O := rem c j) (W := W) (R := 0) (m := 0) (T := ∅)
      (by rw [Nat.zero_add, expect_dma, hamt])) $$ [Hc HO Hat]
  · isplitr; · iexact Hinv
    isplitl [Hc]; · iexact Hc
    isplitl [HO]; · iexact HO
    isplitr; · iapply (mayWait c (.dma q) j hlt); iexact Hlev
    iexact Hat
  iintro ⟨HO, Hat, -, Hpay⟩
  ihave Hp := (BIBase.Entails.of_eq (rest_dma m c q)) $$ Hpay
  imod (Rounds.cell_close ER (sched m) (Set.mem_univ κ) (fun h => h) (R := 0 + 1) (duties_later m ((c : Thread nD τ), .dma q))) $$ [Hat] with Hz
  · isplitr; · iexact Hinv
    iexact Hat
  iapply Hk
  isplitl [HO]; · iexists _; iexact HO
  isplitl [Hz]; · iexact Hz
  iexact Hp

/-- What a transfer needs besides the right to pay: its source, its slot on the neighbour, and the two duties' tokens. -/
def ready (s : Fin 3) (l : Fin 6) (c : Dev nD) : sProp 𝕄 :=
  iprop(srcP m s l c ∗ slotP s l (nbr (ax s (l.val / 2)) c)
    ∗ dutyTok ER (sendCell s l c) 0 0 ∗ dutyTok ER (recvCell s l (nbr (ax s (l.val / 2)) c)) 0 0)

/-- A transfer between two slices: the source's elements and contents, the slot's, and what the slot holds once written. -/
theorem wp_sendLane {α : Type} {Q : α → sProp 𝕄} {k : PUnit → Prog (TpuEff nD τ sig (Elt F) Λ₀ .tc) α} (c n : Dev nD) (s : Fin 3) (l : Fin 6)
    (hn : n = nbr (ax s (l.val / 2)) c) (sS sR : DmaSem sig) (hS : sS = sendQ s l) (hR : sR = recvQ s l) {S : Shape}
    (src dst : Memref sig .tc .vmem S .f32) (hamt : dst.view.dmaCredit = amt l)
    {hsc : (dst : Memref sig (Dev.tc n : Thread nD τ).2.kind .vmem S .f32).view.ref.isScScratch = false}
    {hsrc : src.view.WordExact} {hdst : dst.view.WordExact}
    {hsem : DmaTarget.Typed .vmem (.dma sR) (.remote (Dev.tc n : Thread nD τ) dst (.dma sS) hsc)}
    (O O' : CellTallies nD τ sig Unit) (hO : O = O' + tallyAt (recvCell s l (nbr (ax s (l.val / 2)) c)) () (amt l))
    (fs : Buf (Elt F) (src.view.loc (c : Thread nD τ)))
    (h₁ : srcP m s l c = (src.view.loc (c : Thread nD τ) ↦[src.view.set]{fullShare} fs))
    (h₂ : ∀ c' : Dev nD, slotP (F := F) s l c' = iprop(∃ f : Buf (Elt F) (dst.view.loc (c' : Thread nD τ)), dst.view.loc (c' : Thread nD τ) ↦[dst.view.set]{fullShare} f))
    (h₃ : ∀ fd : Buf (Elt F) (dst.view.loc (nbr (ax s (l.val / 2)) c : Thread nD τ)),
      (dst.view.loc (nbr (ax s (l.val / 2)) c : Thread nD τ) ↦[dst.view.set]{fullShare} (dst.view.write (Elt F) fd (src.view.read (Elt F) fs) Finset.univ))
        = landP m s l (nbr (ax s (l.val / 2)) c)) :
    iprop(records m ∗ owesE c O ∗ ready m s l c)
      ⊢ iprop(((owesE c O' ∗ cred (tallyAt (sendCell s l c) () (amt l))) -∗ run c (k ⟨⟩) Q)
          -∗ run c (.op (.enqueueDma src (.remote (Dev.tc n : Thread nD τ) dst (.dma sS) hsc) (.dma sR) hsrc hdst hsem) k) Q) := by
  subst hn hS hR
  unfold ready owesE
  rw [h₁, h₂]
  iintro ⟨#HR, ⟨%W, HO⟩, Hs, ⟨%fd, Hd⟩, Ht1, Ht2⟩
  ihave #Hk1 := (records_dma m c (sendQ s l) (by unfold sendQ; simp only; omega)) $$ HR
  ihave #Hk2 := (records_dma m (nbr (ax s (l.val / 2)) c) (recvQ s l) (by unfold recvQ; simp only; omega)) $$ HR
  unfold known
  icases Hk1 with ⟨%κ₁, #Hi1, #Hr1⟩
  icases Hk2 with ⟨%κ₂, #Hi2, #Hr2⟩
  iintro Hk
  iapply (Rounds.wp_send_pointsTo 𝒱₀ ER (sched m) (c : Thread nD τ) none (κ₁ := κ₁) (κ₂ := κ₂)
    (r₁ := 0) (r₂ := 0) (d₁ := 0) (d₂ := 0) (fd := fd)
    (by rw [duties_dma]; exact Finset.mem_singleton_self _) (by rw [duties_dma]; exact Finset.mem_singleton_self _)
    () () (amt l) (show View.amount dst.view (.dma (recvQ s l)) = amt l from hamt)
    ((amount_dma m c _ 0).trans (by rw [laneOf_sendQ])) ((amount_dma m _ _ 0).trans (by rw [laneOf_recvQ])) O' hO (W := W)
    (by rw [payload_send, h₁]) (by rw [payload_recv]; exact BIBase.Entails.of_eq (h₃ fd))) $$ [HO Hs Hd Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  iexact Hc

/-! ### The six transfers of a stage -/

/-- Stage `s` with `i` of its transfers issued. -/
def sending (s : Fin 3) (i : ℕ) (c : Dev nD) : sProp 𝕄 :=
  iprop(owesE c (rem c (21 - 6 * s.val - i))
    ∗ bigSep (Finset.univ.filter fun l : Fin 6 => i ≤ l.val) (fun l => ready m s l c)
    ∗ bigSep (Finset.univ.filter fun l : Fin 6 => l.val < i) (fun l => cred (tallyAt (sendCell s l c) () (amt l))))

theorem filter_next {n : ℕ} (i : Fin n) (Φ : Fin n → sProp 𝕄) :
    bigSep (Finset.univ.filter fun l : Fin n => i.val ≤ l.val) Φ = iprop(Φ i ∗ bigSep (Finset.univ.filter fun l : Fin n => i.val + 1 ≤ l.val) Φ) := by
  refine Eq.trans ?_ (bigSep_insert (by simp))
  congr 1
  ext l
  simp only [Finset.mem_filter, Finset.mem_univ, true_and, Finset.mem_insert, Fin.ext_iff]
  omega

theorem filter_done {n : ℕ} (i : Fin n) (Φ : Fin n → sProp 𝕄) :
    bigSep (Finset.univ.filter fun l : Fin n => l.val < i.val + 1) Φ = iprop(Φ i ∗ bigSep (Finset.univ.filter fun l : Fin n => l.val < i.val) Φ) := by
  refine Eq.trans ?_ (bigSep_insert (by simp))
  congr 1
  ext l
  simp only [Finset.mem_filter, Finset.mem_univ, true_and, Finset.mem_insert, Fin.ext_iff]
  omega

theorem rem_lane (c : Dev nD) (s : Fin 3) (l : Fin 6) :
    rem c (21 - 6 * s.val - l.val) = rem c (21 - 6 * s.val - (l.val + 1)) + tallyAt (recvCell s l (nbr (ax s (l.val / 2)) c)) () (amt l) := by
  fin_cases s <;> fin_cases l <;> rfl

theorem wp_send {α : Type} {Q : α → sProp 𝕄} {k : PUnit → Prog (TpuEff nD τ sig (Elt F) Λ₀ .tc) α} (c n : Dev nD) (s : Fin 3) (l : Fin 6)
    (hn : n = nbr (ax s (l.val / 2)) c) (sS sR : DmaSem sig) (hS : sS = sendQ s l) (hR : sR = recvQ s l) {S : Shape}
    (src dst : Memref sig .tc .vmem S .f32) (hamt : dst.view.dmaCredit = amt l)
    {hsc : (dst : Memref sig (Dev.tc n : Thread nD τ).2.kind .vmem S .f32).view.ref.isScScratch = false}
    {hsrc : src.view.WordExact} {hdst : dst.view.WordExact}
    {hsem : DmaTarget.Typed .vmem (.dma sR) (.remote (Dev.tc n : Thread nD τ) dst (.dma sS) hsc)}
    (fs : Buf (Elt F) (src.view.loc (c : Thread nD τ)))
    (h₁ : srcP m s l c = (src.view.loc (c : Thread nD τ) ↦[src.view.set]{fullShare} fs))
    (h₂ : ∀ c' : Dev nD, slotP (F := F) s l c' = iprop(∃ f : Buf (Elt F) (dst.view.loc (c' : Thread nD τ)), dst.view.loc (c' : Thread nD τ) ↦[dst.view.set]{fullShare} f))
    (h₃ : ∀ fd : Buf (Elt F) (dst.view.loc (nbr (ax s (l.val / 2)) c : Thread nD τ)),
      (dst.view.loc (nbr (ax s (l.val / 2)) c : Thread nD τ) ↦[dst.view.set]{fullShare} (dst.view.write (Elt F) fd (src.view.read (Elt F) fs) Finset.univ))
        = landP m s l (nbr (ax s (l.val / 2)) c)) :
    iprop(records m ∗ sending m s l.val c)
      ⊢ iprop((sending m s (l.val + 1) c -∗ run c (k ⟨⟩) Q)
          -∗ run c (.op (.enqueueDma src (.remote (Dev.tc n : Thread nD τ) dst (.dma sS) hsc) (.dma sR) hsrc hdst hsem) k) Q) := by
  unfold sending
  rw [filter_next, filter_done]
  iintro ⟨#HR, HO, ⟨Hl, Hrest⟩, Hdone⟩ Hk
  iapply (wp_sendLane m c n s l hn sS sR hS hR src dst hamt _ _ (rem_lane c s l) fs h₁ h₂ h₃) $$ [HO Hl]
  · isplitr; · iexact HR
    isplitl [HO]; · iexact HO
    iexact Hl
  iintro ⟨HO, Hc⟩
  iapply Hk
  isplitl [HO]; · iexact HO
  isplitl [Hrest]; · iexact Hrest
  isplitl [Hc]; · iexact Hc
  iexact Hdone

/-- The transfer of a part of the numerator. -/
theorem wp_sendNum {α : Type} {Q : α → sProp 𝕄} {k : PUnit → Prog (TpuEff nD τ sig (Elt F) Λ₀ .tc) α} (c n : Dev nD) (s : Fin 3) (l : Fin 6)
    (lo w t : ℕ) (hl : l.val % 2 = 0) (hp : IsPart (l.val / 2) w)
    (hlo : lo = 3 * (l.val / 2)) (ht : t = s.val) (hn : n = nbr (ax s (l.val / 2)) c) (sS sR : DmaSem sig) (hS : sS = sendQ s l) (hR : sR = recvQ s l)
    (inb inb' hq) (hamt : (dstNum (lo := lo) (n := w) (s := t) inb hq).view.dmaCredit = amt l)
    {hsc : (dstNum (lo := lo) (n := w) (s := t) inb hq : Memref sig (Dev.tc n : Thread nD τ).2.kind .vmem _ .f32).view.ref.isScScratch = false}
    {hsrc : (srcNum (lo := lo) (n := w) inb').view.WordExact} {hdst : (dstNum (lo := lo) (n := w) (s := t) inb hq).view.WordExact}
    {hsem : DmaTarget.Typed .vmem (.dma sR) (.remote (Dev.tc n : Thread nD τ) (dstNum (lo := lo) (n := w) (s := t) inb hq : Memref sig .tc .vmem _ .f32) (.dma sS) hsc)} :
    iprop(records m ∗ sending m s l.val c)
      ⊢ iprop((sending m s (l.val + 1) c -∗ run c (k ⟨⟩) Q)
          -∗ run c (.op (.enqueueDma (srcNum (lo := lo) (n := w) inb') (.remote (Dev.tc n : Thread nD τ) (dstNum (lo := lo) (n := w) (s := t) inb hq) (.dma sS) hsc)
              (.dma sR) hsrc hdst hsem) k) Q) := by
  subst ht
  refine wp_send m c n s l hn sS sR hS hR _ _ hamt (accN (num0 m) s c) ?_ (fun c' => ?_) (fun fd => ?_)
  · unfold srcP; rw [if_pos hl, srcNum_set inb' hp hlo]
  · unfold slotP; rw [if_pos hl, dstNum_set (s := s) inb hq hp hlo]
  · unfold landP; rw [if_pos hl]
    refine (pointsTo_congr fun i hi => ?_).trans (by rw [dstNum_set (s := s) inb hq hp hlo])
    exact dstNum_written (num0 m) inb inb' hq hp hlo c fd i (by rw [← dstNum_set (s := s) inb hq hp hlo]; exact hi)

/-- The transfer of a part of the denominator. -/
theorem wp_sendDen {α : Type} {Q : α → sProp 𝕄} {k : PUnit → Prog (TpuEff nD τ sig (Elt F) Λ₀ .tc) α} (c n : Dev nD) (s : Fin 3) (l : Fin 6)
    (lo w t : ℕ) (hl : ¬ l.val % 2 = 0) (hp : IsPart (l.val / 2) w)
    (hlo : lo = 3 * (l.val / 2)) (ht : t = s.val) (hn : n = nbr (ax s (l.val / 2)) c) (sS sR : DmaSem sig) (hS : sS = sendQ s l) (hR : sR = recvQ s l)
    (inb inb' hq) (hamt : (dstDen (lo := lo) (n := w) (s := t) inb hq).view.dmaCredit = amt l)
    {hsc : (dstDen (lo := lo) (n := w) (s := t) inb hq : Memref sig (Dev.tc n : Thread nD τ).2.kind .vmem _ .f32).view.ref.isScScratch = false}
    {hsrc : (srcDen (lo := lo) (n := w) inb').view.WordExact} {hdst : (dstDen (lo := lo) (n := w) (s := t) inb hq).view.WordExact}
    {hsem : DmaTarget.Typed .vmem (.dma sR) (.remote (Dev.tc n : Thread nD τ) (dstDen (lo := lo) (n := w) (s := t) inb hq : Memref sig .tc .vmem _ .f32) (.dma sS) hsc)} :
    iprop(records m ∗ sending m s l.val c)
      ⊢ iprop((sending m s (l.val + 1) c -∗ run c (k ⟨⟩) Q)
          -∗ run c (.op (.enqueueDma (srcDen (lo := lo) (n := w) inb') (.remote (Dev.tc n : Thread nD τ) (dstDen (lo := lo) (n := w) (s := t) inb hq) (.dma sS) hsc)
              (.dma sR) hsrc hdst hsem) k) Q) := by
  subst ht
  refine wp_send m c n s l hn sS sR hS hR _ _ hamt (accD (den0 m) s c) ?_ (fun c' => ?_) (fun fd => ?_)
  · unfold srcP; rw [if_neg hl, srcDen_set inb' hp hlo]
  · unfold slotP; rw [if_neg hl, dstDen_set (s := s) inb hq hp hlo]
  · unfold landP; rw [if_neg hl]
    refine (pointsTo_congr fun i hi => ?_).trans (by rw [dstDen_set (s := s) inb hq hp hlo])
    exact dstDen_written (den0 m) inb inb' hq hp hlo c fd i (by rw [← dstDen_set (s := s) inb hq hp hlo]; exact hi)

/-! ### The twelve waits of a stage -/

/-- One end of a transfer before its wait: the credit promised, and the device's position on the cell. -/
def ahead (c : Dev nD) (q : DmaSem sig) : sProp 𝕄 :=
  iprop(cred (tallyAt ((c : Thread nD τ), .dma q) () (amt (laneOf q).2.2)) ∗ atPos ER ((c : Thread nD τ), .dma q) 0 ∅ 0)
/-- And after: the counter at zero, and what the transfer hands over. -/
def behind (c : Dev nD) (q : DmaSem sig) : sProp 𝕄 :=
  iprop(semVal ((c : Thread nD τ), .dma q) 0 ∗ dmaPay m c (laneOf q))

/-- Stage `s` with all its transfers issued, `i` of its sends and `j` of its receives waited for. -/
def waiting (s : Fin 3) (i j : ℕ) (c : Dev nD) : sProp 𝕄 :=
  iprop(owesE c (rem c (15 - 6 * s.val))
    ∗ (bigSep (Finset.univ.filter fun l : Fin 6 => i ≤ l.val) (fun l => ahead c (sendQ s l))
        ∗ bigSep (Finset.univ.filter fun l : Fin 6 => l.val < i) (fun l => behind m c (sendQ s l)))
    ∗ (bigSep (Finset.univ.filter fun l : Fin 6 => j ≤ l.val) (fun l => ahead c (recvQ s l))
        ∗ bigSep (Finset.univ.filter fun l : Fin 6 => l.val < j) (fun l => behind m c (recvQ s l))))

theorem wp_waitSend {α : Type} {Q : α → sProp 𝕄} {k : PUnit → Prog (TpuEff nD τ sig (Elt F) Λ₀ .tc) α} (c : Dev nD) (s : Fin 3) (l : Fin 6) (j : ℕ)
    (q : DmaSem sig) (hq : q = sendQ s l) {sp sp' : Space} {S S' : Shape} {e e' : EltTy}
    (src : Memref sig .tc sp' S' e') (dst : Memref sig .tc sp S e) {hsrc : src.view.WordExact} {hdst : dst.view.WordExact}
    (hamt : dst.view.dmaCredit = amt l) :
    iprop(records m ∗ levAts L lv ∗ waiting m s l.val j c)
      ⊢ iprop((waiting m s (l.val + 1) j c -∗ run c (k ⟨⟩) Q) -∗ run c (.op (.waitDma2 q src dst hsrc hdst) k) Q) := by
  subst hq
  unfold waiting
  rw [filter_next, filter_done]
  iintro ⟨#HR, #Hlev, HO, ⟨⟨Hl, Hrest⟩, Hdone⟩, Hother⟩ Hk
  unfold ahead
  icases Hl with ⟨Hc, Hat⟩
  iapply (wp_waitLane m c (sendQ s l) (by unfold sendQ; simp only; omega) src dst hsrc hdst (15 - 6 * s.val) (by rw [laneOf_sendQ, hamt])
    (by clear hamt; revert s l; decide)) $$ [HO Hc Hat]
  · isplitr; · iexact HR
    isplitr; · iexact Hlev
    isplitl [HO]; · iexact HO
    isplitl [Hc]; · iexact Hc
    iexact Hat
  iintro ⟨HO, Hz, Hp⟩
  iapply Hk
  isplitl [HO]; · iexact HO
  isplitr [Hother]
  · isplitl [Hrest]; · iexact Hrest
    isplitr [Hdone]
    · unfold behind; isplitl [Hz]; · iexact Hz
      iexact Hp
    iexact Hdone
  iexact Hother

theorem wp_waitRecv {α : Type} {Q : α → sProp 𝕄} {k : PUnit → Prog (TpuEff nD τ sig (Elt F) Λ₀ .tc) α} (c : Dev nD) (s : Fin 3) (l : Fin 6) (i : ℕ)
    (q : DmaSem sig) (hq : q = recvQ s l) {sp sp' : Space} {S S' : Shape} {e e' : EltTy}
    (src : Memref sig .tc sp' S' e') (dst : Memref sig .tc sp S e) {hsrc : src.view.WordExact} {hdst : dst.view.WordExact}
    (hamt : dst.view.dmaCredit = amt l) :
    iprop(records m ∗ levAts L lv ∗ waiting m s i l.val c)
      ⊢ iprop((waiting m s i (l.val + 1) c -∗ run c (k ⟨⟩) Q) -∗ run c (.op (.waitDma2 q src dst hsrc hdst) k) Q) := by
  subst hq
  unfold waiting
  rw [filter_next, filter_done]
  iintro ⟨#HR, #Hlev, HO, Hother, ⟨⟨Hl, Hrest⟩, Hdone⟩⟩ Hk
  unfold ahead
  icases Hl with ⟨Hc, Hat⟩
  iapply (wp_waitLane m c (recvQ s l) (by unfold recvQ; simp only; omega) src dst hsrc hdst (15 - 6 * s.val) (by rw [laneOf_recvQ, hamt])
    (by clear hamt; revert s l; decide)) $$ [HO Hc Hat]
  · isplitr; · iexact HR
    isplitr; · iexact Hlev
    isplitl [HO]; · iexact HO
    isplitl [Hc]; · iexact Hc
    iexact Hat
  iintro ⟨HO, Hz, Hp⟩
  iapply Hk
  isplitl [HO]; · iexact HO
  isplitl [Hother]; · iexact Hother
  isplitl [Hrest]; · iexact Hrest
  isplitr [Hdone]
  · unfold behind; isplitl [Hz]; · iexact Hz
    iexact Hp
  iexact Hdone

end Steps

end Cert.KernelIdealRun

end
-- ==== Proof.KernelIdeal.Stages.lean ====
/-
# The parts of the body that send and wait
-/
module

public import proofs.«01_k».proof.Proof.KernelIdeal.Moves

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body, at the buffers and semaphores the kernel runs on. -/
abbrev atBuffers {β : Type 1} (f : (arg0 : Memref sig .tc .vmem S4x32x8x128 .f32) → arg0.IsWhole → (arg1 : Memref sig .tc .hbm S4x4096x8x128 .f32) → arg1.IsWhole →
    (arg2 : Memref sig .tc .hbm S4x4096x8x128 .f32) → arg2.IsWhole → (arg3 : Memref sig .tc .vmem S4x32x8x128 .f32) → arg3.IsWhole →
    (arg4 : Memref sig .tc .vmem S4x1024x8x128 .f32) → arg4.IsWhole → (arg5 : Memref sig .tc .vmem S4x1024x8x128 .f32) → arg5.IsWhole →
    (arg6 : Memref sig .tc .vmem S8x4x32x128 .f32) → arg6.IsWhole → (arg7 : Memref sig .tc .vmem S8x4x32 .f32) → arg7.IsWhole →
    (arg8 : Memref sig .tc .vmem S3x8x4x32x128 .f32) → arg8.IsWhole → (arg9 : Memref sig .tc .vmem S3x8x4x32 .f32) → arg9.IsWhole →
    DmaSems sig S2 → DmaSems sig S3x3 → DmaSems sig S3x3 → DmaSems sig S3x3 → DmaSems sig S3x3 → Sems sig S_ → β) : β :=
  f (Memref.whole cc0_stg0_0) (Memref.isWhole_whole _) (Memref.whole main_arg1) (Memref.isWhole_whole _) (Memref.whole main_arg2) (Memref.isWhole_whole _)
    (Memref.whole cc0_stg1_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10 cc0_scoped0

/-- What a device keeps for the waits of stage `s` while it sends. -/
def held (s : Fin 3) (c : Dev nD) : sProp 𝕄 :=
  iprop(bigSep Finset.univ (fun l : Fin 6 => atPos ER (sendCell s l c) 0 ∅ 0) ∗ bigSep Finset.univ (fun l : Fin 6 => ahead c (recvQ s l)))

theorem sent_waiting (s : Fin 3) (c : Dev nD) : iprop(sending m s 6 c ∗ held s c) ⊢ waiting m s 0 0 c := by
  unfold sending held waiting
  have e1 : (Finset.univ.filter fun l : Fin 6 => 6 ≤ l.val) = ∅ := by decide
  have e2 : (Finset.univ.filter fun l : Fin 6 => l.val < 6) = Finset.univ := by decide
  have e3 : (Finset.univ.filter fun l : Fin 6 => 0 ≤ l.val) = Finset.univ := by decide
  have e4 : (Finset.univ.filter fun l : Fin 6 => l.val < 0) = ∅ := by decide
  rw [e1, e2, e3, e4, bigSep_empty, bigSep_empty, bigSep_empty, show 21 - 6 * s.val - 6 = 15 - 6 * s.val by omega]
  unfold ahead
  simp only [laneOf_sendQ]
  iintro ⟨⟨HO, -, Hc⟩, Hat, Hr⟩
  isplitl [HO]; · iexact HO
  isplitl [Hc Hat]
  · isplitl [Hc Hat]
    · iapply (BIBase.Entails.of_eq (bigSep_sep' Finset.univ (fun l : Fin 6 => cred (tallyAt (sendCell s l c) () (amt l))) (fun l : Fin 6 => atPos ER (sendCell s l c) 0 ∅ 0)).symm)
      isplitl [Hc]; · iexact Hc
      iexact Hat
    iempintro
  isplitl [Hr]; · iexact Hr
  iempintro

/-! ## Whom each transfer goes to -/

theorem dev4 (c : Dev nD) : (⟨k0_dev4 c, k0_dev4_lt c⟩ : Dev nD) = nbr (ax 0 0) c := by revert c; decide
theorem dev5 (c : Dev nD) : (⟨k0_dev5 c, k0_dev5_lt c⟩ : Dev nD) = nbr (ax 0 0) c := by revert c; decide
theorem dev6 (c : Dev nD) : (⟨k0_dev6 c, k0_dev6_lt c⟩ : Dev nD) = nbr (ax 0 1) c := by revert c; decide
theorem dev7 (c : Dev nD) : (⟨k0_dev7 c, k0_dev7_lt c⟩ : Dev nD) = nbr (ax 0 1) c := by revert c; decide
theorem dev8 (c : Dev nD) : (⟨k0_dev8 c, k0_dev8_lt c⟩ : Dev nD) = nbr (ax 0 2) c := by revert c; decide
theorem dev9 (c : Dev nD) : (⟨k0_dev9 c, k0_dev9_lt c⟩ : Dev nD) = nbr (ax 0 2) c := by revert c; decide
theorem dev10 (c : Dev nD) : (⟨k0_dev10 c, k0_dev10_lt c⟩ : Dev nD) = nbr (ax 1 0) c := by revert c; decide
theorem dev11 (c : Dev nD) : (⟨k0_dev11 c, k0_dev11_lt c⟩ : Dev nD) = nbr (ax 1 0) c := by revert c; decide
theorem dev12 (c : Dev nD) : (⟨k0_dev12 c, k0_dev12_lt c⟩ : Dev nD) = nbr (ax 1 1) c := by revert c; decide
theorem dev13 (c : Dev nD) : (⟨k0_dev13 c, k0_dev13_lt c⟩ : Dev nD) = nbr (ax 1 1) c := by revert c; decide
theorem dev14 (c : Dev nD) : (⟨k0_dev14 c, k0_dev14_lt c⟩ : Dev nD) = nbr (ax 1 2) c := by revert c; decide
theorem dev15 (c : Dev nD) : (⟨k0_dev15 c, k0_dev15_lt c⟩ : Dev nD) = nbr (ax 1 2) c := by revert c; decide
theorem dev16 (c : Dev nD) : (⟨k0_dev16 c, k0_dev16_lt c⟩ : Dev nD) = nbr (ax 2 0) c := by revert c; decide
theorem dev17 (c : Dev nD) : (⟨k0_dev17 c, k0_dev17_lt c⟩ : Dev nD) = nbr (ax 2 0) c := by revert c; decide
theorem dev18 (c : Dev nD) : (⟨k0_dev18 c, k0_dev18_lt c⟩ : Dev nD) = nbr (ax 2 1) c := by revert c; decide
theorem dev19 (c : Dev nD) : (⟨k0_dev19 c, k0_dev19_lt c⟩ : Dev nD) = nbr (ax 2 1) c := by revert c; decide
theorem dev20 (c : Dev nD) : (⟨k0_dev20 c, k0_dev20_lt c⟩ : Dev nD) = nbr (ax 2 2) c := by revert c; decide
theorem dev21 (c : Dev nD) : (⟨k0_dev21 c, k0_dev21_lt c⟩ : Dev nD) = nbr (ax 2 2) c := by revert c; decide

/-! ## The parts, in the order of the program -/

theorem part9 (c : Dev nD) (v5 : BitVec 32) (v8 : BitVec 32) (v222 : BitVec 32) (Kt : (BitVec 32) → sProp 𝕄) :
    iprop(records m ∗ sending m 0 0 c)
      ⊢ iprop((∀ r, sending m 0 2 c -∗ Kt r) -∗ run c (atBuffers k0_part9 c v5 v8 v222) Kt) := by
  simp only [atBuffers, k0_part9_eq_skeleton]; unfold k0_part9_skel
  simp only [Prog.lift, Prog.bind_op, Prog.bind_ret, Prog.pure_eq_ret]
  iintro ⟨#HR, H⟩ Hk
  iapply (wp_sendNum m c _ 0 0 0 3 0 rfl (by decide) rfl rfl (dev4 c) _ _ rfl rfl _ _ _ rfl) $$ [H]
  · isplitr; · iexact HR
    iexact H
  iintro H
  iapply (wp_sendDen m c _ 0 1 0 3 0 (by decide) (by decide) rfl rfl (dev5 c) _ _ rfl rfl _ _ _ rfl) $$ [H]
  · isplitr; · iexact HR
    iexact H
  iintro H
  iapply run_ret
  iapply Hk
  iexact H

theorem part10 (c : Dev nD) (v2 : BitVec 32) (v8 : BitVec 32) (v249 : BitVec 32) (Kt : (BitVec 32) → sProp 𝕄) :
    iprop(records m ∗ sending m 0 2 c)
      ⊢ iprop((∀ r, sending m 0 4 c -∗ Kt r) -∗ run c (atBuffers k0_part10 c v2 v8 v249) Kt) := by
  simp only [atBuffers, k0_part10_eq_skeleton]; unfold k0_part10_skel
  simp only [Prog.lift, Prog.bind_op, Prog.bind_ret, Prog.pure_eq_ret]
  iintro ⟨#HR, H⟩ Hk
  iapply (wp_sendNum m c _ 0 2 3 3 0 rfl (by decide) rfl rfl (dev6 c) _ _ rfl rfl _ _ _ rfl) $$ [H]
  · isplitr; · iexact HR
    iexact H
  iintro H
  iapply (wp_sendDen m c _ 0 3 3 3 0 (by decide) (by decide) rfl rfl (dev7 c) _ _ rfl rfl _ _ _ rfl) $$ [H]
  · isplitr; · iexact HR
    iexact H
  iintro H
  iapply run_ret
  iapply Hk
  iexact H

theorem part11 (c : Dev nD) (v2 : BitVec 32) (v5 : BitVec 32) (v8 : BitVec 32) (c1_i32_278 : BitVec 32) (Kt : (BitVec 32) → sProp 𝕄) :
    iprop(records m ∗ sending m 0 4 c)
      ⊢ iprop((∀ r, sending m 0 5 c -∗ Kt r) -∗ run c (atBuffers k0_part11 c v2 v5 v8 c1_i32_278) Kt) := by
  simp only [atBuffers, k0_part11_eq_skeleton]; unfold k0_part11_skel
  simp only [Prog.lift, Prog.bind_op, Prog.bind_ret, Prog.pure_eq_ret]
  iintro ⟨#HR, H⟩ Hk
  iapply (wp_sendNum m c _ 0 4 6 2 0 rfl (by decide) rfl rfl (dev8 c) _ _ rfl rfl _ _ _ rfl) $$ [H]
  · isplitr; · iexact HR
    iexact H
  iintro H
  iapply run_ret
  iapply Hk
  iexact H

theorem part12 (c : Dev nD) (v5 : BitVec 32) (v8 : BitVec 32) (v222 : BitVec 32) (Kt : (PUnit) → sProp 𝕄) :
    iprop(records m ∗ levAts L lv ∗ sending m 0 5 c ∗ held 0 c)
      ⊢ iprop((∀ r, waiting m 0 1 1 c -∗ Kt r) -∗ run c (atBuffers k0_part12 c v5 v8 v222) Kt) := by
  simp only [atBuffers, k0_part12_eq_skeleton]; unfold k0_part12_skel
  simp only [Prog.lift, Prog.bind_op, Prog.bind_ret, Prog.pure_eq_ret]
  iintro ⟨#HR, #Hlev, H, Hh⟩ Hk
  iapply (wp_sendDen m c _ 0 5 6 2 0 (by decide) (by decide) rfl rfl (dev9 c) _ _ rfl rfl _ _ _ rfl) $$ [H]
  · isplitr; · iexact HR
    iexact H
  iintro H
  ihave H := (sent_waiting m 0 c) $$ [H Hh]
  · isplitl [H]; · iexact H
    iexact Hh
  iapply (wp_waitSend m c 0 0 0 _ rfl _ _ rfl) $$ [H]
  · isplitr; · iexact HR
    isplitr; · iexact Hlev
    iexact H
  iintro H
  iapply (wp_waitRecv m c 0 0 1 _ rfl _ _ rfl) $$ [H]
  · isplitr; · iexact HR
    isplitr; · iexact Hlev
    iexact H
  iintro H
  iapply run_ret
  iapply Hk
  iexact H

theorem part13 (c : Dev nD) (v5 : BitVec 32) (v8 : BitVec 32) (v222 : BitVec 32) (Kt : (PUnit) → sProp 𝕄) :
    iprop(records m ∗ levAts L lv ∗ waiting m 0 1 1 c)
      ⊢ iprop((∀ r, waiting m 0 3 2 c -∗ Kt r) -∗ run c (atBuffers k0_part13 v5 v8 v222) Kt) := by
  simp only [atBuffers, k0_part13_eq_skeleton]; unfold k0_part13_skel
  simp only [Prog.lift, Prog.bind_op, Prog.bind_ret, Prog.pure_eq_ret]
  iintro ⟨#HR, #Hlev, H⟩ Hk
  iapply (wp_waitSend m c 0 1 1 _ rfl _ _ rfl) $$ [H]
  · isplitr; · iexact HR
    isplitr; · iexact Hlev
    iexact H
  iintro H
  iapply (wp_waitRecv m c 0 1 2 _ rfl _ _ rfl) $$ [H]
  · isplitr; · iexact HR
    isplitr; · iexact Hlev
    iexact H
  iintro H
  iapply (wp_waitSend m c 0 2 2 _ rfl _ _ rfl) $$ [H]
  · isplitr; · iexact HR
    isplitr; · iexact Hlev
    iexact H
  iintro H
  iapply run_ret
  iapply Hk
  iexact H

theorem part14 (c : Dev nD) (v2 : BitVec 32) (v8 : BitVec 32) (v249 : BitVec 32) (Kt : (PUnit) → sProp 𝕄) :
    iprop(records m ∗ levAts L lv ∗ waiting m 0 3 2 c)
      ⊢ iprop((∀ r, waiting m 0 4 3 c -∗ Kt r) -∗ run c (atBuffers k0_part14 v2 v8 v249) Kt) := by
  simp only [atBuffers, k0_part14_eq_skeleton]; unfold k0_part14_skel
  simp only [Prog.lift, Prog.bind_op, Prog.bind_ret, Prog.pure_eq_ret]
  iintro ⟨#HR, #Hlev, H⟩ Hk
  iapply (wp_waitRecv m c 0 2 3 _ rfl _ _ rfl) $$ [H]
  · isplitr; · iexact HR
    isplitr; · iexact Hlev
    iexact H
  iintro H
  iapply (wp_waitSend m c 0 3 3 _ rfl _ _ rfl) $$ [H]
  · isplitr; · iexact HR
    isplitr; · iexact Hlev
    iexact H
  iintro H
  iapply run_ret
  iapply Hk
  iexact H

theorem part15 (c : Dev nD) (v2 : BitVec 32) (v5 : BitVec 32) (v276 : BitVec 32) (Kt : (PUnit) → sProp 𝕄) :
    iprop(records m ∗ levAts L lv ∗ waiting m 0 4 3 c)
      ⊢ iprop((∀ r, waiting m 0 5 5 c -∗ Kt r) -∗ run c (atBuffers k0_part15 v2 v5 v276) Kt) := by
  simp only [atBuffers, k0_part15_eq_skeleton]; unfold k0_part15_skel
  simp only [Prog.lift, Prog.bind_op, Prog.bind_ret, Prog.pure_eq_ret]
  iintro ⟨#HR, #Hlev, H⟩ Hk
  iapply (wp_waitRecv m c 0 3 4 _ rfl _ _ rfl) $$ [H]
  · isplitr; · iexact HR
    isplitr; · iexact Hlev
    iexact H
  iintro H
  iapply (wp_waitSend m c 0 4 4 _ rfl _ _ rfl) $$ [H]
  · isplitr; · iexact HR
    isplitr; · iexact Hlev
    iexact H
  iintro H
  iapply (wp_waitRecv m c 0 4 5 _ rfl _ _ rfl) $$ [H]
  · isplitr; · iexact HR
    isplitr; · iexact Hlev
    iexact H
  iintro H
  iapply run_ret
  iapply Hk
  iexact H

theorem part18 (c : Dev nD) (v2 : BitVec 32) (v5 : BitVec 32) (v8 : BitVec 32) (v413 : BitVec 32) (Kt : (BitVec 32) → sProp 𝕄) :
    iprop(records m ∗ sending m 1 1 c)
      ⊢ iprop((∀ r, sending m 1 3 c -∗ Kt r) -∗ run c (atBuffers k0_part18 c v2 v5 v8 v413) Kt) := by
  simp only [atBuffers, k0_part18_eq_skeleton]; unfold k0_part18_skel
  simp only [Prog.lift, Prog.bind_op, Prog.bind_ret, Prog.pure_eq_ret]
  iintro ⟨#HR, H⟩ Hk
  iapply (wp_sendDen m c _ 1 1 0 3 1 (by decide) (by decide) rfl rfl (dev11 c) _ _ rfl rfl _ _ _ rfl) $$ [H]
  · isplitr; · iexact HR
    iexact H
  iintro H
  iapply (wp_sendNum m c _ 1 2 3 3 1 rfl (by decide) rfl rfl (dev12 c) _ _ rfl rfl _ _ _ rfl) $$ [H]
  · isplitr; · iexact HR
    iexact H
  iintro H
  iapply run_ret
  iapply Hk
  iexact H

theorem part19 (c : Dev nD) (v2 : BitVec 32) (v5 : BitVec 32) (v8 : BitVec 32) (v440 : BitVec 32) (Kt : (BitVec 32) → sProp 𝕄) :
    iprop(records m ∗ sending m 1 3 c)
      ⊢ iprop((∀ r, sending m 1 5 c -∗ Kt r) -∗ run c (atBuffers k0_part19 c v2 v5 v8 v440) Kt) := by
  simp only [atBuffers, k0_part19_eq_skeleton]; unfold k0_part19_skel
  simp only [Prog.lift, Prog.bind_op, Prog.bind_ret, Prog.pure_eq_ret]
  iintro ⟨#HR, H⟩ Hk
  iapply (wp_sendDen m c _ 1 3 3 3 1 (by decide) (by decide) rfl rfl (dev13 c) _ _ rfl rfl _ _ _ rfl) $$ [H]
  · isplitr; · iexact HR
    iexact H
  iintro H
  iapply (wp_sendNum m c _ 1 4 6 2 1 rfl (by decide) rfl rfl (dev14 c) _ _ rfl rfl _ _ _ rfl) $$ [H]
  · isplitr; · iexact HR
    iexact H
  iintro H
  iapply run_ret
  iapply Hk
  iexact H

theorem part20 (c : Dev nD) (v2 : BitVec 32) (v5 : BitVec 32) (v8 : BitVec 32) (v413 : BitVec 32) (v467 : BitVec 32) (Kt : (BitVec 32) → sProp 𝕄) :
    iprop(records m ∗ levAts L lv ∗ sending m 1 5 c ∗ held 1 c)
      ⊢ iprop((∀ r, waiting m 1 1 0 c -∗ Kt r) -∗ run c (atBuffers k0_part20 c v2 v5 v8 v413 v467) Kt) := by
  simp only [atBuffers, k0_part20_eq_skeleton]; unfold k0_part20_skel
  simp only [Prog.lift, Prog.bind_op, Prog.bind_ret, Prog.pure_eq_ret]
  iintro ⟨#HR, #Hlev, H, Hh⟩ Hk
  iapply (wp_sendDen m c _ 1 5 6 2 1 (by decide) (by decide) rfl rfl (dev15 c) _ _ rfl rfl _ _ _ rfl) $$ [H]
  · isplitr; · iexact HR
    iexact H
  iintro H
  ihave H := (sent_waiting m 1 c) $$ [H Hh]
  · isplitl [H]; · iexact H
    iexact Hh
  iapply (wp_waitSend m c 1 0 0 _ rfl _ _ rfl) $$ [H]
  · isplitr; · iexact HR
    isplitr; · iexact Hlev
    iexact H
  iintro H
  iapply run_ret
  iapply Hk
  iexact H

theorem part21 (c : Dev nD) (v2 : BitVec 32) (v8 : BitVec 32) (v413 : BitVec 32) (v502 : BitVec 32) (Kt : (PUnit) → sProp 𝕄) :
    iprop(records m ∗ levAts L lv ∗ waiting m 1 1 0 c)
      ⊢ iprop((∀ r, waiting m 1 2 1 c -∗ Kt r) -∗ run c (atBuffers k0_part21 v2 v8 v413 v502) Kt) := by
  simp only [atBuffers, k0_part21_eq_skeleton]; unfold k0_part21_skel
  simp only [Prog.lift, Prog.bind_op, Prog.bind_ret, Prog.pure_eq_ret]
  iintro ⟨#HR, #Hlev, H⟩ Hk
  iapply (wp_waitRecv m c 1 0 1 _ rfl _ _ rfl) $$ [H]
  · isplitr; · iexact HR
    isplitr; · iexact Hlev
    iexact H
  iintro H
  iapply (wp_waitSend m c 1 1 1 _ rfl _ _ rfl) $$ [H]
  · isplitr; · iexact HR
    isplitr; · iexact Hlev
    iexact H
  iintro H
  iapply run_ret
  iapply Hk
  iexact H

theorem part22 (c : Dev nD) (v2 : BitVec 32) (v5 : BitVec 32) (v440 : BitVec 32) (Kt : (PUnit) → sProp 𝕄) :
    iprop(records m ∗ levAts L lv ∗ waiting m 1 2 1 c)
      ⊢ iprop((∀ r, waiting m 1 3 3 c -∗ Kt r) -∗ run c (atBuffers k0_part22 v2 v5 v440) Kt) := by
  simp only [atBuffers, k0_part22_eq_skeleton]; unfold k0_part22_skel
  simp only [Prog.lift, Prog.bind_op, Prog.bind_ret, Prog.pure_eq_ret]
  iintro ⟨#HR, #Hlev, H⟩ Hk
  iapply (wp_waitRecv m c 1 1 2 _ rfl _ _ rfl) $$ [H]
  · isplitr; · iexact HR
    isplitr; · iexact Hlev
    iexact H
  iintro H
  iapply (wp_waitSend m c 1 2 2 _ rfl _ _ rfl) $$ [H]
  · isplitr; · iexact HR
    isplitr; · iexact Hlev
    iexact H
  iintro H
  iapply (wp_waitRecv m c 1 2 3 _ rfl _ _ rfl) $$ [H]
  · isplitr; · iexact HR
    isplitr; · iexact Hlev
    iexact H
  iintro H
  iapply run_ret
  iapply Hk
  iexact H

theorem part23 (c : Dev nD) (v2 : BitVec 32) (v5 : BitVec 32) (v440 : BitVec 32) (Kt : (PUnit) → sProp 𝕄) :
    iprop(records m ∗ levAts L lv ∗ waiting m 1 3 3 c)
      ⊢ iprop((∀ r, waiting m 1 5 4 c -∗ Kt r) -∗ run c (atBuffers k0_part23 v2 v5 v440) Kt) := by
  simp only [atBuffers, k0_part23_eq_skeleton]; unfold k0_part23_skel
  simp only [Prog.lift, Prog.bind_op, Prog.bind_ret, Prog.pure_eq_ret]
  iintro ⟨#HR, #Hlev, H⟩ Hk
  iapply (wp_waitSend m c 1 3 3 _ rfl _ _ rfl) $$ [H]
  · isplitr; · iexact HR
    isplitr; · iexact Hlev
    iexact H
  iintro H
  iapply (wp_waitRecv m c 1 3 4 _ rfl _ _ rfl) $$ [H]
  · isplitr; · iexact HR
    isplitr; · iexact Hlev
    iexact H
  iintro H
  iapply (wp_waitSend m c 1 4 4 _ rfl _ _ rfl) $$ [H]
  · isplitr; · iexact HR
    isplitr; · iexact Hlev
    iexact H
  iintro H
  iapply run_ret
  iapply Hk
  iexact H

theorem part24 (c : Dev nD) (v5 : BitVec 32) (v8 : BitVec 32) (v467 : BitVec 32) (Kt : (PUnit) → sProp 𝕄) :
    iprop(records m ∗ levAts L lv ∗ waiting m 1 5 4 c)
      ⊢ iprop((∀ r, waiting m 1 6 5 c -∗ Kt r) -∗ run c (atBuffers k0_part24 v5 v8 v467) Kt) := by
  simp only [atBuffers, k0_part24_eq_skeleton]; unfold k0_part24_skel
  simp only [Prog.lift, Prog.bind_op, Prog.bind_ret, Prog.pure_eq_ret]
  iintro ⟨#HR, #Hlev, H⟩ Hk
  iapply (wp_waitRecv m c 1 4 5 _ rfl _ _ rfl) $$ [H]
  · isplitr; · iexact HR
    isplitr; · iexact Hlev
    iexact H
  iintro H
  iapply (wp_waitSend m c 1 5 5 _ rfl _ _ rfl) $$ [H]
  · isplitr; · iexact HR
    isplitr; · iexact Hlev
    iexact H
  iintro H
  iapply run_ret
  iapply Hk
  iexact H

theorem part26 (c : Dev nD) (v2 : BitVec 32) (v5 : BitVec 32) (v604 : BitVec 32) (v606 : BitVec 32) (Kt : (Σ' (v631 : BitVec 32), BitVec 32) → sProp 𝕄) :
    iprop(records m ∗ sending m 2 0 c)
      ⊢ iprop((∀ r, sending m 2 2 c -∗ Kt r) -∗ run c (atBuffers k0_part26 c v2 v5 v604 v606) Kt) := by
  simp only [atBuffers, k0_part26_eq_skeleton]; unfold k0_part26_skel
  simp only [Prog.lift, Prog.bind_op, Prog.bind_ret, Prog.pure_eq_ret]
  iintro ⟨#HR, H⟩ Hk
  iapply (wp_sendNum m c _ 2 0 0 3 2 rfl (by decide) rfl rfl (dev16 c) _ _ rfl rfl _ _ _ rfl) $$ [H]
  · isplitr; · iexact HR
    iexact H
  iintro H
  iapply (wp_sendDen m c _ 2 1 0 3 2 (by decide) (by decide) rfl rfl (dev17 c) _ _ rfl rfl _ _ _ rfl) $$ [H]
  · isplitr; · iexact HR
    iexact H
  iintro H
  iapply run_ret
  iapply Hk
  iexact H

theorem part27 (c : Dev nD) (v5 : BitVec 32) (v8 : BitVec 32) (v631 : BitVec 32) (v632 : BitVec 32) (Kt : (BitVec 32) → sProp 𝕄) :
    iprop(records m ∗ sending m 2 2 c)
      ⊢ iprop((∀ r, sending m 2 4 c -∗ Kt r) -∗ run c (atBuffers k0_part27 c v5 v8 v631 v632) Kt) := by
  simp only [atBuffers, k0_part27_eq_skeleton]; unfold k0_part27_skel
  simp only [Prog.lift, Prog.bind_op, Prog.bind_ret, Prog.pure_eq_ret]
  iintro ⟨#HR, H⟩ Hk
  iapply (wp_sendNum m c _ 2 2 3 3 2 rfl (by decide) rfl rfl (dev18 c) _ _ rfl rfl _ _ _ rfl) $$ [H]
  · isplitr; · iexact HR
    iexact H
  iintro H
  iapply (wp_sendDen m c _ 2 3 3 3 2 (by decide) (by decide) rfl rfl (dev19 c) _ _ rfl rfl _ _ _ rfl) $$ [H]
  · isplitr; · iexact HR
    iexact H
  iintro H
  iapply run_ret
  iapply Hk
  iexact H

theorem part28 (c : Dev nD) (v2 : BitVec 32) (v8 : BitVec 32) (v658 : BitVec 32) (Kt : (PUnit) → sProp 𝕄) :
    iprop(records m ∗ sending m 2 4 c)
      ⊢ iprop((∀ r, sending m 2 6 c -∗ Kt r) -∗ run c (atBuffers k0_part28 c v2 v8 v658) Kt) := by
  simp only [atBuffers, k0_part28_eq_skeleton]; unfold k0_part28_skel
  simp only [Prog.lift, Prog.bind_op, Prog.bind_ret, Prog.pure_eq_ret]
  iintro ⟨#HR, H⟩ Hk
  iapply (wp_sendNum m c _ 2 4 6 2 2 rfl (by decide) rfl rfl (dev20 c) _ _ rfl rfl _ _ _ rfl) $$ [H]
  · isplitr; · iexact HR
    iexact H
  iintro H
  iapply (wp_sendDen m c _ 2 5 6 2 2 (by decide) (by decide) rfl rfl (dev21 c) _ _ rfl rfl _ _ _ rfl) $$ [H]
  · isplitr; · iexact HR
    iexact H
  iintro H
  iapply run_ret
  iapply Hk
  iexact H

theorem part29 (c : Dev nD) (v2 : BitVec 32) (v5 : BitVec 32) (v604 : BitVec 32) (Kt : (PUnit) → sProp 𝕄) :
    iprop(records m ∗ levAts L lv ∗ sending m 2 6 c ∗ held 2 c)
      ⊢ iprop((∀ r, waiting m 2 1 1 c -∗ Kt r) -∗ run c (atBuffers k0_part29 v2 v5 v604) Kt) := by
  simp only [atBuffers, k0_part29_eq_skeleton]; unfold k0_part29_skel
  simp only [Prog.lift, Prog.bind_op, Prog.bind_ret, Prog.pure_eq_ret]
  iintro ⟨#HR, #Hlev, H, Hh⟩ Hk
  ihave H := (sent_waiting m 2 c) $$ [H Hh]
  · isplitl [H]; · iexact H
    iexact Hh
  iapply (wp_waitSend m c 2 0 0 _ rfl _ _ rfl) $$ [H]
  · isplitr; · iexact HR
    isplitr; · iexact Hlev
    iexact H
  iintro H
  iapply (wp_waitRecv m c 2 0 1 _ rfl _ _ rfl) $$ [H]
  · isplitr; · iexact HR
    isplitr; · iexact Hlev
    iexact H
  iintro H
  iapply run_ret
  iapply Hk
  iexact H

theorem part30 (c : Dev nD) (v2 : BitVec 32) (v5 : BitVec 32) (v604 : BitVec 32) (v631 : BitVec 32) (Kt : (Σ' (v723 : BitVec 32), BitVec 32) → sProp 𝕄) :
    iprop(records m ∗ levAts L lv ∗ waiting m 2 1 1 c)
      ⊢ iprop((∀ r, waiting m 2 3 2 c -∗ Kt r) -∗ run c (atBuffers k0_part30 v2 v5 v604 v631) Kt) := by
  simp only [atBuffers, k0_part30_eq_skeleton]; unfold k0_part30_skel
  simp only [Prog.lift, Prog.bind_op, Prog.bind_ret, Prog.pure_eq_ret]
  iintro ⟨#HR, #Hlev, H⟩ Hk
  iapply (wp_waitSend m c 2 1 1 _ rfl _ _ rfl) $$ [H]
  · isplitr; · iexact HR
    isplitr; · iexact Hlev
    iexact H
  iintro H
  iapply (wp_waitRecv m c 2 1 2 _ rfl _ _ rfl) $$ [H]
  · isplitr; · iexact HR
    isplitr; · iexact Hlev
    iexact H
  iintro H
  iapply (wp_waitSend m c 2 2 2 _ rfl _ _ rfl) $$ [H]
  · isplitr; · iexact HR
    isplitr; · iexact Hlev
    iexact H
  iintro H
  iapply run_ret
  iapply Hk
  iexact H

theorem part31 (c : Dev nD) (v5 : BitVec 32) (v8 : BitVec 32) (v631 : BitVec 32) (v723 : BitVec 32) (v724 : BitVec 32) (Kt : (PUnit) → sProp 𝕄) :
    iprop(records m ∗ levAts L lv ∗ waiting m 2 3 2 c)
      ⊢ iprop((∀ r, waiting m 2 4 3 c -∗ Kt r) -∗ run c (atBuffers k0_part31 v5 v8 v631 v723 v724) Kt) := by
  simp only [atBuffers, k0_part31_eq_skeleton]; unfold k0_part31_skel
  simp only [Prog.lift, Prog.bind_op, Prog.bind_ret, Prog.pure_eq_ret]
  iintro ⟨#HR, #Hlev, H⟩ Hk
  iapply (wp_waitRecv m c 2 2 3 _ rfl _ _ rfl) $$ [H]
  · isplitr; · iexact HR
    isplitr; · iexact Hlev
    iexact H
  iintro H
  iapply (wp_waitSend m c 2 3 3 _ rfl _ _ rfl) $$ [H]
  · isplitr; · iexact HR
    isplitr; · iexact Hlev
    iexact H
  iintro H
  iapply run_ret
  iapply Hk
  iexact H

theorem part32 (c : Dev nD) (v2 : BitVec 32) (v8 : BitVec 32) (v658 : BitVec 32) (Kt : (PUnit) → sProp 𝕄) :
    iprop(records m ∗ levAts L lv ∗ waiting m 2 4 3 c)
      ⊢ iprop((∀ r, waiting m 2 5 5 c -∗ Kt r) -∗ run c (atBuffers k0_part32 v2 v8 v658) Kt) := by
  simp only [atBuffers, k0_part32_eq_skeleton]; unfold k0_part32_skel
  simp only [Prog.lift, Prog.bind_op, Prog.bind_ret, Prog.pure_eq_ret]
  iintro ⟨#HR, #Hlev, H⟩ Hk
  iapply (wp_waitRecv m c 2 3 4 _ rfl _ _ rfl) $$ [H]
  · isplitr; · iexact HR
    isplitr; · iexact Hlev
    iexact H
  iintro H
  iapply (wp_waitSend m c 2 4 4 _ rfl _ _ rfl) $$ [H]
  · isplitr; · iexact HR
    isplitr; · iexact Hlev
    iexact H
  iintro H
  iapply (wp_waitRecv m c 2 4 5 _ rfl _ _ rfl) $$ [H]
  · isplitr; · iexact HR
    isplitr; · iexact Hlev
    iexact H
  iintro H
  iapply run_ret
  iapply Hk
  iexact H

end Cert.KernelIdealRun

end
-- ==== Proof.KernelIdeal.Adds.lean ====
/-
# Between two stages

The buffers are held whole between stages and in parts within one: here the passage from one to the other, and the parts of
the body that add what a stage brought.
-/
module

public import proofs.«01_k».proof.Proof.KernelIdeal.Stages
public import Idealize.ShloMosaic.Lib.Pipeline.Value

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loads and stores by what they read and leave -/

theorem wp_loadAt {α : Type} {Q : α → sProp 𝕄} (c : Dev nD) {cs : CoreSpace} {S : Shape} {e : EltTy} (b : Memref sig .tc cs S e) (r : LoadRect S)
    {hl : b.view.LoadsAt r} {k : (r.shape.Idx → Elt F e) → Prog (TpuEff nD τ sig (Elt F) Λ₀ .tc) α}
    {I : Finset (Idx (b.view.loc (c : Thread nD τ)))} {q : PosShare TreeShare} {f : Buf (Elt F) (b.view.loc (c : Thread nD τ))}
    (hI : b.view.setOn r.set ⊆ I) (v : r.shape.Idx → Elt F e) (hv : b.view.readAt (Elt F) r f = v) :
    (b.view.loc (c : Thread nD τ) ↦[I]{q} f)
      ⊢ iprop(((b.view.loc (c : Thread nD τ) ↦[I]{q} f) -∗ run c (k v) Q) -∗ run c (.op (.load b r hl) k) Q) := by
  subst hv; exact wp_load 𝒱₀ (c : Thread nD τ) none Set.univ hI

theorem wp_storeAt {α : Type} {Q : α → sProp 𝕄} (c : Dev nD) {cs : CoreSpace} {S : Shape} {e : EltTy} (b : Memref sig .tc cs S e) (r : Rect S)
    {w : r.shape.Idx → Elt F e} {hx : (b.access r).Stores Finset.univ} {hm} {k : PUnit → Prog (TpuEff nD τ sig (Elt F) Λ₀ .tc) α}
    {f : Buf (Elt F) ((b.access r).loc (c : Thread nD τ))} (g : Buf (Elt F) ((b.access r).loc (c : Thread nD τ)))
    (hg : (b.access r).write (Elt F) f w Finset.univ = g) :
    ((b.access r).loc (c : Thread nD τ) ↦{fullShare} f)
      ⊢ iprop((((b.access r).loc (c : Thread nD τ) ↦{fullShare} g) -∗ run c (k ⟨⟩) Q) -∗ run c (.op (.store b r w Finset.univ hx hm) k) Q) := by
  subst hg; exact wp_store 𝒱₀ (c : Thread nD τ) none Set.univ (Finset.subset_univ _)

/-! ## The buffers, whole -/

abbrev numP (c : Dev nD) (f : Num F) : sProp 𝕄 := ((c : Thread nD τ).loc cc0_scratch2) ↦{fullShare} f
abbrev denP (c : Dev nD) (f : Den F) : sProp 𝕄 := ((c : Thread nD τ).loc cc0_scratch3) ↦{fullShare} f
/-- Slab `s` of the landing buffers, landed. -/
abbrev slabNP (s : ℕ) (c : Dev nD) : sProp 𝕄 :=
  ((c : Thread nD τ).loc cc0_scratch4) ↦[Finset.univ.filter fun i : S3x8x4x32x128.Idx => (i 0).val = s]{fullShare} landN (num0 m) c
abbrev slabDP (s : ℕ) (c : Dev nD) : sProp 𝕄 :=
  ((c : Thread nD τ).loc cc0_scratch5) ↦[Finset.univ.filter fun i : S3x8x4x32.Idx => (i 0).val = s]{fullShare} landD (den0 m) c

theorem bigSep_six (Φ : Fin 6 → sProp 𝕄) : bigSep Finset.univ Φ = iprop(Φ 0 ∗ Φ 1 ∗ Φ 2 ∗ Φ 3 ∗ Φ 4 ∗ Φ 5) := by
  have e : (Finset.univ : Finset (Fin 6)) = insert 0 (insert 1 (insert 2 (insert 3 (insert 4 {5})))) := by decide
  rw [e, bigSep_insert (by decide), bigSep_insert (by decide), bigSep_insert (by decide), bigSep_insert (by decide), bigSep_insert (by decide), bigSep_singleton]
  rfl

/-- Elements sorted by a number below three, held part by part. -/
theorem pointsTo_three {ℓ : Loc nD τ sig} (I : Finset (Idx ℓ)) (g : Idx ℓ → ℕ) (hg : ∀ i, g i < 3) (f : Buf (Elt F) ℓ) :
    (ℓ ↦[I]{fullShare} f : sProp 𝕄)
      = iprop((ℓ ↦[I.filter fun i => g i = 0]{fullShare} f) ∗ (ℓ ↦[I.filter fun i => g i = 1]{fullShare} f) ∗ ℓ ↦[I.filter fun i => g i = 2]{fullShare} f) := by
  have hd : ∀ a b : ℕ, a ≠ b → Disjoint (I.filter fun i => g i = a) (I.filter fun i => g i = b) := fun a b hab =>
    Finset.disjoint_filter.mpr fun i _ h1 h2 => hab (h1.symm.trans h2)
  have e : I = (I.filter fun i => g i = 0) ∪ ((I.filter fun i => g i = 1) ∪ (I.filter fun i => g i = 2)) := by
    ext i
    have := hg i
    simp only [Finset.mem_union, Finset.mem_filter]
    constructor
    · intro h
      rcases (by omega : g i = 0 ∨ g i = 1 ∨ g i = 2) with h' | h' | h'
      · exact Or.inl ⟨h, h'⟩
      · exact Or.inr (Or.inl ⟨h, h'⟩)
      · exact Or.inr (Or.inr ⟨h, h'⟩)
    · rintro (h | h | h) <;> exact h.1
  have h1 := pointsTo_union (f := f) (q := fullShare) (Ix := Unit) (Name := ℕ) (U := UU) (Lvl := ℕ)
    (Finset.disjoint_union_right.mpr ⟨hd 0 1 (by decide), hd 0 2 (by decide)⟩)
  have h2 := pointsTo_union (f := f) (q := fullShare) (Ix := Unit) (Name := ℕ) (U := UU) (Lvl := ℕ) (hd 1 2 (by decide))
  conv_lhs => rw [e]
  rw [equiv_iff.mp ⟨h1.1, h1.2⟩, equiv_iff.mp ⟨h2.1, h2.2⟩]

theorem numP_parts (c : Dev nD) (f : Num F) : numP c f
    = iprop((((c : Thread nD τ).loc cc0_scratch2) ↦[numSet 0]{fullShare} f) ∗ (((c : Thread nD τ).loc cc0_scratch2) ↦[numSet 1]{fullShare} f)
        ∗ (((c : Thread nD τ).loc cc0_scratch2) ↦[numSet 2]{fullShare} f) : sProp 𝕄) :=
  pointsTo_three (ℓ := (c : Thread nD τ).loc cc0_scratch2) Finset.univ (fun i : S8x4x32x128.Idx => (i 0).val / 3) (fun i => by have : (i 0).val < 8 := (i 0).isLt; omega) f

theorem denP_parts (c : Dev nD) (f : Den F) : denP c f
    = iprop((((c : Thread nD τ).loc cc0_scratch3) ↦[denSet 0]{fullShare} f) ∗ (((c : Thread nD τ).loc cc0_scratch3) ↦[denSet 1]{fullShare} f)
        ∗ (((c : Thread nD τ).loc cc0_scratch3) ↦[denSet 2]{fullShare} f) : sProp 𝕄) :=
  pointsTo_three (ℓ := (c : Thread nD τ).loc cc0_scratch3) Finset.univ (fun i : S8x4x32.Idx => (i 0).val / 3) (fun i => by have : (i 0).val < 8 := (i 0).isLt; omega) f

theorem slabN_parts (s : ℕ) (c : Dev nD) (f : FVec F S3x8x4x32x128 .f32) :
    (((c : Thread nD τ).loc cc0_scratch4) ↦[Finset.univ.filter fun i : S3x8x4x32x128.Idx => (i 0).val = s]{fullShare} f : sProp 𝕄)
    = iprop((((c : Thread nD τ).loc cc0_scratch4) ↦[landNumSet s 0]{fullShare} f) ∗ (((c : Thread nD τ).loc cc0_scratch4) ↦[landNumSet s 1]{fullShare} f)
        ∗ (((c : Thread nD τ).loc cc0_scratch4) ↦[landNumSet s 2]{fullShare} f)) := by
  refine (pointsTo_three (ℓ := (c : Thread nD τ).loc cc0_scratch4) _ (fun i : S3x8x4x32x128.Idx => (i 1).val / 3) (fun i => by have : (i 1).val < 8 := (i 1).isLt; omega) f).trans ?_
  rw [Finset.filter_filter, Finset.filter_filter, Finset.filter_filter]; rfl

theorem slabD_parts (s : ℕ) (c : Dev nD) (f : FVec F S3x8x4x32 .f32) :
    (((c : Thread nD τ).loc cc0_scratch5) ↦[Finset.univ.filter fun i : S3x8x4x32.Idx => (i 0).val = s]{fullShare} f : sProp 𝕄)
    = iprop((((c : Thread nD τ).loc cc0_scratch5) ↦[landDenSet s 0]{fullShare} f) ∗ (((c : Thread nD τ).loc cc0_scratch5) ↦[landDenSet s 1]{fullShare} f)
        ∗ (((c : Thread nD τ).loc cc0_scratch5) ↦[landDenSet s 2]{fullShare} f)) := by
  refine (pointsTo_three (ℓ := (c : Thread nD τ).loc cc0_scratch5) _ (fun i : S3x8x4x32.Idx => (i 1).val / 3) (fun i => by have : (i 1).val < 8 := (i 1).isLt; omega) f).trans ?_
  rw [Finset.filter_filter, Finset.filter_filter, Finset.filter_filter]; rfl

/-- The six sources of a stage are the two buffers. -/
theorem srcs (s : Fin 3) (c : Dev nD) :
    bigSep Finset.univ (fun l : Fin 6 => srcP m s l c) ⊣⊢ iprop(numP c (accN (num0 m) s c) ∗ denP c (accD (den0 m) s c)) := by
  have h0 : srcP m s 0 c = (((c : Thread nD τ).loc cc0_scratch2) ↦[numSet 0]{fullShare} accN (num0 m) s c) := if_pos (by decide)
  have h1 : srcP m s 1 c = (((c : Thread nD τ).loc cc0_scratch3) ↦[denSet 0]{fullShare} accD (den0 m) s c) := if_neg (by decide)
  have h2 : srcP m s 2 c = (((c : Thread nD τ).loc cc0_scratch2) ↦[numSet 1]{fullShare} accN (num0 m) s c) := if_pos (by decide)
  have h3 : srcP m s 3 c = (((c : Thread nD τ).loc cc0_scratch3) ↦[denSet 1]{fullShare} accD (den0 m) s c) := if_neg (by decide)
  have h4 : srcP m s 4 c = (((c : Thread nD τ).loc cc0_scratch2) ↦[numSet 2]{fullShare} accN (num0 m) s c) := if_pos (by decide)
  have h5 : srcP m s 5 c = (((c : Thread nD τ).loc cc0_scratch3) ↦[denSet 2]{fullShare} accD (den0 m) s c) := if_neg (by decide)
  rw [numP_parts, denP_parts, bigSep_six, h0, h1, h2, h3, h4, h5]
  constructor
  · iintro ⟨H0, H1, H2, H3, H4, H5⟩
    isplitl [H0 H2 H4]
    · isplitl [H0]; · iexact H0
      isplitl [H2]; · iexact H2
      iexact H4
    isplitl [H1]; · iexact H1
    isplitl [H3]; · iexact H3
    iexact H5
  · iintro ⟨⟨H0, H2, H4⟩, H1, H3, H5⟩
    isplitl [H0]; · iexact H0
    isplitl [H1]; · iexact H1
    isplitl [H2]; · iexact H2
    isplitl [H3]; · iexact H3
    isplitl [H4]; · iexact H4
    iexact H5

/-- The six landing slots of a stage, landed, are its two slabs. -/
theorem lands (s : Fin 3) (c : Dev nD) :
    bigSep Finset.univ (fun l : Fin 6 => landP m s l c) ⊢ iprop(slabNP m s c ∗ slabDP m s c) := by
  have h0 : landP m s 0 c = (((c : Thread nD τ).loc cc0_scratch4) ↦[landNumSet s 0]{fullShare} landN (num0 m) c) := if_pos (by decide)
  have h1 : landP m s 1 c = (((c : Thread nD τ).loc cc0_scratch5) ↦[landDenSet s 0]{fullShare} landD (den0 m) c) := if_neg (by decide)
  have h2 : landP m s 2 c = (((c : Thread nD τ).loc cc0_scratch4) ↦[landNumSet s 1]{fullShare} landN (num0 m) c) := if_pos (by decide)
  have h3 : landP m s 3 c = (((c : Thread nD τ).loc cc0_scratch5) ↦[landDenSet s 1]{fullShare} landD (den0 m) c) := if_neg (by decide)
  have h4 : landP m s 4 c = (((c : Thread nD τ).loc cc0_scratch4) ↦[landNumSet s 2]{fullShare} landN (num0 m) c) := if_pos (by decide)
  have h5 : landP m s 5 c = (((c : Thread nD τ).loc cc0_scratch5) ↦[landDenSet s 2]{fullShare} landD (den0 m) c) := if_neg (by decide)
  unfold slabNP slabDP
  rw [slabN_parts s c, slabD_parts s c, bigSep_six, h0, h1, h2, h3, h4, h5]
  iintro ⟨H0, H1, H2, H3, H4, H5⟩
  isplitl [H0 H2 H4]
  · isplitl [H0]; · iexact H0
    isplitl [H2]; · iexact H2
    iexact H4
  isplitl [H1]; · iexact H1
  isplitl [H3]; · iexact H3
  iexact H5

/-- A stage's twelve counters, back at zero. -/
def sems (s : Fin 3) (c : Dev nD) : sProp 𝕄 :=
  iprop(bigSep Finset.univ (fun l : Fin 6 => semVal (sendCell s l c) 0) ∗ bigSep Finset.univ (fun l : Fin 6 => semVal (recvCell s l c) 0))

/-- A stage's waits over, nothing added yet. -/
theorem waited (s : Fin 3) (c : Dev nD) :
    waiting m s 6 6 c ⊢ iprop(owesE c (rem c (15 - 6 * s.val)) ∗ sems s c ∗ (numP c (accN (num0 m) s c) ∗ denP c (accD (den0 m) s c))
      ∗ slabNP m s c ∗ slabDP m s c) := by
  have e1 : (Finset.univ.filter fun l : Fin 6 => 6 ≤ l.val) = ∅ := by decide
  have e2 : (Finset.univ.filter fun l : Fin 6 => l.val < 6) = Finset.univ := by decide
  unfold waiting behind
  rw [e1, e2, bigSep_empty, bigSep_empty, bigSep_sep', bigSep_sep']
  simp only [laneOf_sendQ, laneOf_recvQ]
  iintro ⟨HO, ⟨-, Hz, Hs⟩, -, Hz', Hl⟩
  isplitl [HO]; · iexact HO
  isplitl [Hz Hz']
  · unfold sems
    isplitl [Hz]; · iexact Hz
    iexact Hz'
  isplitl [Hs]
  · iapply (srcs m s c).1; iexact Hs
  iapply (lands m s c); iexact Hl

/-- What a device has in hand for the transfers of stage `s`, besides their sources. -/
def kit (s : Fin 3) (c : Dev nD) : sProp 𝕄 :=
  bigSep Finset.univ fun l : Fin 6 => iprop(slotP s l (nbr (ax s (l.val / 2)) c)
    ∗ dutyTok ER (sendCell s l c) 0 0 ∗ dutyTok ER (recvCell s l (nbr (ax s (l.val / 2)) c)) 0 0)

theorem begin_stage (s : Fin 3) (c : Dev nD) :
    iprop(owesE c (rem c (21 - 6 * s.val)) ∗ (numP c (accN (num0 m) s c) ∗ denP c (accD (den0 m) s c)) ∗ kit s c) ⊢ sending m s 0 c := by
  have e3 : (Finset.univ.filter fun l : Fin 6 => 0 ≤ l.val) = Finset.univ := by decide
  have e4 : (Finset.univ.filter fun l : Fin 6 => l.val < 0) = ∅ := by decide
  unfold sending kit ready
  rw [e3, e4, bigSep_empty, bigSep_sep' _ (fun l => srcP m s l c)]
  iintro ⟨HO, Hb, Hk⟩
  isplitl [HO]; · iexact HO
  isplitl [Hb Hk]
  · isplitl [Hb]; · iapply (srcs m s c).2; iexact Hb
    iexact Hk
  iempintro

/-! ## What a slab reads, and the sum -/

def slabN (X : Dev nD → Num F) (s : ℕ) (c : Dev nD) : FVec F S1x8x4x32x128 .f32 :=
  fun i => swapN s (accN X s) c (fun a => ⟨(i a.succ).val, (i a.succ).isLt⟩)
def slabD (X : Dev nD → Den F) (s : ℕ) (c : Dev nD) : FVec F S1x8x4x32 .f32 :=
  fun i => swapD s (accD X s) c (fun a => ⟨(i a.succ).val, (i a.succ).isLt⟩)

theorem read_slabN (X : Dev nD → Num F) (s : ℕ) (c : Dev nD) (inb : ∀ a, (![s, 0, 0, 0, 0] : Fin 5 → ℕ) a + S1x8x4x32x128.size a ≤ S3x8x4x32x128.size a) :
    (Memref.whole cc0_scratch4).view.readAt (Elt F) (Rect.unit (s := S3x8x4x32x128) ![s, 0, 0, 0, 0] S1x8x4x32x128.size inb).toLoadRect (landN X c)
      = slabN X s c := by
  funext i
  show landN X c ((Rect.unit (s := S3x8x4x32x128) ![s, 0, 0, 0, 0] S1x8x4x32x128.size inb).emb i) = _
  unfold landN
  have h0 : (((Rect.unit (s := S3x8x4x32x128) ![s, 0, 0, 0, 0] S1x8x4x32x128.size inb).emb i) 0).val = s := by
    have : (i 0).val < 1 := (i 0).isLt
    show s + 1 * (i 0).val = s; omega
  rw [h0]
  unfold slabN
  congr 1
  funext a
  refine Fin.ext ?_
  fin_cases a
  · show 0 + 1 * (i 1).val = (i 1).val; omega
  · show 0 + 1 * (i 2).val = (i 2).val; omega
  · show 0 + 1 * (i 3).val = (i 3).val; omega
  · show 0 + 1 * (i 4).val = (i 4).val; omega

theorem read_slabD (X : Dev nD → Den F) (s : ℕ) (c : Dev nD) (inb : ∀ a, (![s, 0, 0, 0] : Fin 4 → ℕ) a + S1x8x4x32.size a ≤ S3x8x4x32.size a) :
    (Memref.whole cc0_scratch5).view.readAt (Elt F) (Rect.unit (s := S3x8x4x32) ![s, 0, 0, 0] S1x8x4x32.size inb).toLoadRect (landD X c)
      = slabD X s c := by
  funext i
  show landD X c ((Rect.unit (s := S3x8x4x32) ![s, 0, 0, 0] S1x8x4x32.size inb).emb i) = _
  unfold landD
  have h0 : (((Rect.unit (s := S3x8x4x32) ![s, 0, 0, 0] S1x8x4x32.size inb).emb i) 0).val = s := by
    have : (i 0).val < 1 := (i 0).isLt
    show s + 1 * (i 0).val = s; omega
  rw [h0]
  unfold slabD
  congr 1
  funext a
  refine Fin.ext ?_
  fin_cases a
  · show 0 + 1 * (i 1).val = (i 1).val; omega
  · show 0 + 1 * (i 2).val = (i 2).val; omega
  · show 0 + 1 * (i 3).val = (i 3).val; omega

/-- The elements a load of a slab touches are the slab's. -/
theorem slabN_sub (s : ℕ) (inb : ∀ a, (![s, 0, 0, 0, 0] : Fin 5 → ℕ) a + S1x8x4x32x128.size a ≤ S3x8x4x32x128.size a) :
    (Memref.whole cc0_scratch4 : Memref sig .tc _ _ _).view.setOn (Rect.unit (s := S3x8x4x32x128) ![s, 0, 0, 0, 0] S1x8x4x32x128.size inb).toLoadRect.set
      ⊆ Finset.univ.filter fun i : S3x8x4x32x128.Idx => (i 0).val = s := by
  intro i hi
  obtain ⟨x, hx, rfl⟩ := Finset.mem_map.mp hi
  refine Finset.mem_filter.mpr ⟨Finset.mem_univ _, ?_⟩
  have h : s ≤ (x 0).val ∧ (x 0).val < s + 1 := (Rect.mem_set_unit.mp hx) 0
  show (x 0).val = s; omega

theorem slabD_sub (s : ℕ) (inb : ∀ a, (![s, 0, 0, 0] : Fin 4 → ℕ) a + S1x8x4x32.size a ≤ S3x8x4x32.size a) :
    (Memref.whole cc0_scratch5 : Memref sig .tc _ _ _).view.setOn (Rect.unit (s := S3x8x4x32) ![s, 0, 0, 0] S1x8x4x32.size inb).toLoadRect.set
      ⊆ Finset.univ.filter fun i : S3x8x4x32.Idx => (i 0).val = s := by
  intro i hi
  obtain ⟨x, hx, rfl⟩ := Finset.mem_map.mp hi
  refine Finset.mem_filter.mpr ⟨Finset.mem_univ _, ?_⟩
  have h : s ≤ (x 0).val ∧ (x 0).val < s + 1 := (Rect.mem_set_unit.mp hx) 0
  show (x 0).val = s; omega

theorem cast_slabN (X : Dev nD → Num F) (s : ℕ) (c : Dev nD) :
    shapeCast S8x4x32x128 (slabN X s c) shapeCasts_S1x8x4x32x128_S8x4x32x128 = swapN s (accN X s) c := by
  funext i
  show slabN X s c (Shape.reshapeEquiv _ i) = _
  rw [Shape.reshapeEquiv_cons_one]
  rfl

theorem cast_slabD (X : Dev nD → Den F) (s : ℕ) (c : Dev nD) :
    shapeCast S8x4x32 (slabD X s c) shapeCasts_S1x8x4x32_S8x4x32 = swapD s (accD X s) c := by
  funext i
  show slabD X s c (Shape.reshapeEquiv _ i) = _
  rw [Shape.reshapeEquiv_cons_one]
  rfl

/-- The body's sum of a buffer and a slab. -/
theorem add_slabN (X : Dev nD → Num F) (s : ℕ) (c : Dev nD) : k0_pay38 (accN X s c) (slabN X s c) = accN X (s + 1) c := by
  unfold k0_pay38
  rw [cast_slabN]; exact shapeCast_self _ _
theorem add_slabD (X : Dev nD → Den F) (s : ℕ) (c : Dev nD) : k0_pay39 (accD X s c) (slabD X s c) = accD X (s + 1) c := by
  unfold k0_pay39
  rw [cast_slabD]; exact shapeCast_self _ _

end Cert.KernelIdealRun

end
-- ==== Proof.KernelIdeal.Turns.lean ====
/-
# The parts of the body that turn from one stage to the next, and the last one
-/
module

public import proofs.«01_k».proof.Proof.KernelIdeal.Adds

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem off4 : (![0, 0, 0, 0] : Fin 4 → ℕ) = fun _ => 0 := funext fun a => by fin_cases a <;> rfl
theorem off3 : (![0, 0, 0] : Fin 3 → ℕ) = fun _ => 0 := funext fun a => by fin_cases a <;> rfl

/-- The first stage's sum is written in two parts. -/
theorem add_slabN' (X : Dev nD → Num F) (s : ℕ) (c : Dev nD) : k0_pay35 (accN X s c) (slabN X s c) = accN X (s + 1) c := by
  unfold k0_pay35
  rw [cast_slabN]; rfl
theorem pay36_self (v : Num F) : k0_pay36 v = v := shapeCast_self _ _

/-- A stage's waits over: the counters, the two buffers and the two landed slabs. -/
def over (s : Fin 3) (c : Dev nD) : sProp 𝕄 :=
  iprop(owesE c (rem c (15 - 6 * s.val)) ∗ sems s c ∗ (numP c (accN (num0 m) s c) ∗ denP c (accD (den0 m) s c)) ∗ slabNP m s c ∗ slabDP m s c)

/-- What the added stage leaves for the end: the counters and the slabs. -/
def done (s : Fin 3) (c : Dev nD) : sProp 𝕄 := iprop(sems s c ∗ slabNP m s c ∗ slabDP m s c)

abbrev outP (c : Dev nD) (f : FVec F S4x32x8x128 .f32) : sProp 𝕄 := ((c : Thread nD τ).loc cc0_stg1_0) ↦{fullShare} f

theorem part16 (c : Dev nD) (v2 : BitVec 32) (v5 : BitVec 32) (v276 : BitVec 32) (Kt : (FVec F S8x4x32x128 .f32) → sProp 𝕄) :
    iprop(records m ∗ levAts L lv ∗ waiting m 0 5 5 c)
      ⊢ iprop((over m 0 c -∗ Kt (accN (num0 m) 1 c)) -∗ run c (atBuffers k0_part16 v2 v5 v276) Kt) := by
  simp only [atBuffers, k0_part16_eq_skeleton]; unfold k0_part16_skel
  simp only [Prog.lift, Prog.bind_op, Prog.bind_ret, Prog.pure_eq_ret, semSignalWord]
  iintro ⟨#HR, #Hlev, H⟩ Hk
  iapply (wp_waitSend m c 0 5 5 _ rfl _ _ rfl) $$ [H]
  · isplitr; · iexact HR
    isplitr; · iexact Hlev
    iexact H
  iintro H
  iapply (wp_waitRecv m c 0 5 6 _ rfl _ _ rfl) $$ [H]
  · isplitr; · iexact HR
    isplitr; · iexact Hlev
    iexact H
  iintro H
  ihave H := (show iprop(waiting m 0 6 ((5 : Fin 6).val + 1) c) ⊢ _ from waited m 0 c) $$ H
  icases H with ⟨HO, Hz, ⟨HN, HD⟩, HSN, HSD⟩
  iapply (wp_loadAt c (Memref.whole cc0_scratch2) _ (Finset.subset_univ _) _ (Memref.readAt_unit_zero (Elt F) cc0_scratch2 off4 _ _)) $$ [HN]; · iexact HN
  iintro HN
  iapply (wp_loadAt c (Memref.whole cc0_scratch4) _ (slabN_sub 0 _) _ (read_slabN (num0 m) 0 c _)) $$ [HSN]; · iexact HSN
  iintro HSN
  iapply run_ret
  rw [show k0_pay35 (accN (num0 m) (0 : Fin 3).val c) (slabN (num0 m) 0 c) = accN (num0 m) 1 c from add_slabN' (num0 m) 0 c]
  iapply Hk
  unfold over
  isplitl [HO]; · iexact HO
  isplitl [Hz]; · iexact Hz
  isplitl [HN HD]
  · isplitl [HN]; · iexact HN
    iexact HD
  isplitl [HSN]; · iexact HSN
  iexact HSD

theorem part17 (c : Dev nD) (v2 : BitVec 32) (v5 : BitVec 32) (v8 : BitVec 32) (Kt : (BitVec 32) → sProp 𝕄) :
    iprop(records m ∗ over m 0 c ∗ kit 1 c)
      ⊢ iprop((∀ r, (done m 0 c ∗ sending m 1 1 c) -∗ Kt r) -∗ run c (atBuffers k0_part17 c v2 v5 v8 (accN (num0 m) 1 c)) Kt) := by
  simp only [atBuffers, k0_part17_eq_skeleton]; unfold k0_part17_skel
  simp only [Prog.lift, Prog.bind_op, Prog.bind_ret, Prog.pure_eq_ret, semSignalWord]
  iintro ⟨#HR, H, Hkit⟩ Hk
  unfold over
  icases H with ⟨HO, Hz, ⟨HN, HD⟩, HSN, HSD⟩
  iapply (wp_loadAt c (Memref.whole cc0_scratch2) _ (Finset.subset_univ _) _ (Memref.readAt_unit_zero (Elt F) cc0_scratch2 off4 _ _)) $$ [HN]; · iexact HN
  iintro HN
  iapply (wp_storeAt c (Memref.whole cc0_scratch2) _ (accN (num0 m) 1 c) ((Memref.write_access_unit_zero_univ (Elt F) cc0_scratch2 off4 _ _ _).trans (pay36_self _))) $$ [HN]; · iexact HN
  iintro HN
  iapply (wp_loadAt c (Memref.whole cc0_scratch3) _ (Finset.subset_univ _) _ (Memref.readAt_unit_zero (Elt F) cc0_scratch3 off3 _ _)) $$ [HD]; · iexact HD
  iintro HD
  iapply (wp_loadAt c (Memref.whole cc0_scratch5) _ (slabD_sub 0 _) _ (read_slabD (den0 m) 0 c _)) $$ [HSD]; · iexact HSD
  iintro HSD
  iapply (wp_loadAt c (Memref.whole cc0_scratch3) _ (Finset.subset_univ _) _ (Memref.readAt_unit_zero (Elt F) cc0_scratch3 off3 _ _)) $$ [HD]; · iexact HD
  iintro HD
  iapply (wp_storeAt c (Memref.whole cc0_scratch3) _ (accD (den0 m) 1 c) ((Memref.write_access_unit_zero_univ (Elt F) cc0_scratch3 off3 _ _ _).trans (add_slabD (den0 m) 0 c))) $$ [HD]; · iexact HD
  iintro HD
  ihave H := (begin_stage m 1 c) $$ [HO HN HD Hkit]
  · isplitl [HO]; · iexact HO
    isplitl [HN HD]
    · isplitl [HN]; · iexact HN
      iexact HD
    iexact Hkit
  iapply (wp_sendNum m c _ 1 0 0 3 1 rfl (by decide) rfl rfl (dev10 c) _ _ rfl rfl _ _ _ rfl) $$ [H]
  · isplitr; · iexact HR
    iexact H
  iintro H
  iapply run_ret
  iapply Hk
  isplitl [Hz HSN HSD]
  · unfold done
    isplitl [Hz]; · iexact Hz
    isplitl [HSN]; · iexact HSN
    iexact HSD
  iexact H

theorem part25 (c : Dev nD) (v2 : BitVec 32) (v8 : BitVec 32) (Kt : (Σ' (v604 : BitVec 32), BitVec 32) → sProp 𝕄) :
    iprop(records m ∗ levAts L lv ∗ waiting m 1 6 5 c ∗ kit 2 c)
      ⊢ iprop((∀ r, (done m 1 c ∗ sending m 2 0 c) -∗ Kt r) -∗ run c (atBuffers k0_part25 v2 v8) Kt) := by
  simp only [atBuffers, k0_part25_eq_skeleton]; unfold k0_part25_skel
  simp only [Prog.lift, Prog.bind_op, Prog.bind_ret, Prog.pure_eq_ret, semSignalWord]
  iintro ⟨#HR, #Hlev, H, Hkit⟩ Hk
  iapply (wp_waitRecv m c 1 5 6 _ rfl _ _ rfl) $$ [H]
  · isplitr; · iexact HR
    isplitr; · iexact Hlev
    iexact H
  iintro H
  ihave H := (show iprop(waiting m 1 6 ((5 : Fin 6).val + 1) c) ⊢ _ from waited m 1 c) $$ H
  icases H with ⟨HO, Hz, ⟨HN, HD⟩, HSN, HSD⟩
  iapply (wp_loadAt c (Memref.whole cc0_scratch2) _ (Finset.subset_univ _) _ (Memref.readAt_unit_zero (Elt F) cc0_scratch2 off4 _ _)) $$ [HN]; · iexact HN
  iintro HN
  iapply (wp_loadAt c (Memref.whole cc0_scratch4) _ (slabN_sub 1 _) _ (read_slabN (num0 m) 1 c _)) $$ [HSN]; · iexact HSN
  iintro HSN
  iapply (wp_loadAt c (Memref.whole cc0_scratch2) _ (Finset.subset_univ _) _ (Memref.readAt_unit_zero (Elt F) cc0_scratch2 off4 _ _)) $$ [HN]; · iexact HN
  iintro HN
  iapply (wp_storeAt c (Memref.whole cc0_scratch2) _ (accN (num0 m) 2 c) ((Memref.write_access_unit_zero_univ (Elt F) cc0_scratch2 off4 _ _ _).trans (add_slabN (num0 m) 1 c))) $$ [HN]; · iexact HN
  iintro HN
  iapply (wp_loadAt c (Memref.whole cc0_scratch3) _ (Finset.subset_univ _) _ (Memref.readAt_unit_zero (Elt F) cc0_scratch3 off3 _ _)) $$ [HD]; · iexact HD
  iintro HD
  iapply (wp_loadAt c (Memref.whole cc0_scratch5) _ (slabD_sub 1 _) _ (read_slabD (den0 m) 1 c _)) $$ [HSD]; · iexact HSD
  iintro HSD
  iapply (wp_loadAt c (Memref.whole cc0_scratch3) _ (Finset.subset_univ _) _ (Memref.readAt_unit_zero (Elt F) cc0_scratch3 off3 _ _)) $$ [HD]; · iexact HD
  iintro HD
  iapply (wp_storeAt c (Memref.whole cc0_scratch3) _ (accD (den0 m) 2 c) ((Memref.write_access_unit_zero_univ (Elt F) cc0_scratch3 off3 _ _ _).trans (add_slabD (den0 m) 1 c))) $$ [HD]; · iexact HD
  iintro HD
  ihave H := (begin_stage m 2 c) $$ [HO HN HD Hkit]
  · isplitl [HO]; · iexact HO
    isplitl [HN HD]
    · isplitl [HN]; · iexact HN
      iexact HD
    iexact Hkit
  iapply run_ret
  iapply Hk
  isplitl [Hz HSN HSD]
  · unfold done
    isplitl [Hz]; · iexact Hz
    isplitl [HSN]; · iexact HSN
    iexact HSD
  iexact H

theorem part33 (c : Dev nD) (v2 : BitVec 32) (v8 : BitVec 32) (v658 : BitVec 32) (Kt : (PUnit) → sProp 𝕄) :
    iprop(records m ∗ levAts L lv ∗ waiting m 2 5 5 c)
      ⊢ iprop(((owesE c (rem c 3) ∗ done m 2 c ∗ numP c (accN (num0 m) 3 c) ∗ denP c (accD (den0 m) 2 c)) -∗ Kt ⟨⟩) -∗ run c (atBuffers k0_part33 v2 v8 v658) Kt) := by
  simp only [atBuffers, k0_part33_eq_skeleton]; unfold k0_part33_skel
  simp only [Prog.lift, Prog.bind_op, Prog.bind_ret, Prog.pure_eq_ret, semSignalWord]
  iintro ⟨#HR, #Hlev, H⟩ Hk
  iapply (wp_waitSend m c 2 5 5 _ rfl _ _ rfl) $$ [H]
  · isplitr; · iexact HR
    isplitr; · iexact Hlev
    iexact H
  iintro H
  iapply (wp_waitRecv m c 2 5 6 _ rfl _ _ rfl) $$ [H]
  · isplitr; · iexact HR
    isplitr; · iexact Hlev
    iexact H
  iintro H
  ihave H := (show iprop(waiting m 2 6 ((5 : Fin 6).val + 1) c) ⊢ _ from waited m 2 c) $$ H
  icases H with ⟨HO, Hz, ⟨HN, HD⟩, HSN, HSD⟩
  iapply (wp_loadAt c (Memref.whole cc0_scratch2) _ (Finset.subset_univ _) _ (Memref.readAt_unit_zero (Elt F) cc0_scratch2 off4 _ _)) $$ [HN]; · iexact HN
  iintro HN
  iapply (wp_loadAt c (Memref.whole cc0_scratch4) _ (slabN_sub 2 _) _ (read_slabN (num0 m) 2 c _)) $$ [HSN]; · iexact HSN
  iintro HSN
  iapply (wp_loadAt c (Memref.whole cc0_scratch2) _ (Finset.subset_univ _) _ (Memref.readAt_unit_zero (Elt F) cc0_scratch2 off4 _ _)) $$ [HN]; · iexact HN
  iintro HN
  iapply (wp_storeAt c (Memref.whole cc0_scratch2) _ (accN (num0 m) 3 c) ((Memref.write_access_unit_zero_univ (Elt F) cc0_scratch2 off4 _ _ _).trans (add_slabN (num0 m) 2 c))) $$ [HN]; · iexact HN
  iintro HN
  iapply run_ret
  iapply Hk
  isplitl [HO]; · iexact HO
  isplitl [Hz HSN HSD]
  · unfold done
    isplitl [Hz]; · iexact Hz
    isplitl [HSN]; · iexact HSN
    iexact HSD
  isplitl [HN]; · iexact HN
  iexact HD

theorem dev1 (c : Dev nD) : (⟨k0_dev1 c, k0_dev1_lt c⟩ : Dev nD) = nbr 0 c := by revert c; decide
theorem dev2 (c : Dev nD) : (⟨k0_dev2 c, k0_dev2_lt c⟩ : Dev nD) = nbr 1 c := by revert c; decide
theorem dev3 (c : Dev nD) : (⟨k0_dev3 c, k0_dev3_lt c⟩ : Dev nD) = nbr 2 c := by revert c; decide
theorem dev22 (c : Dev nD) : (⟨k0_dev22 c, k0_dev22_lt c⟩ : Dev nD) = nbr 0 c := by revert c; decide
theorem dev23 (c : Dev nD) : (⟨k0_dev23 c, k0_dev23_lt c⟩ : Dev nD) = nbr 1 c := by revert c; decide
theorem dev24 (c : Dev nD) : (⟨k0_dev24 c, k0_dev24_lt c⟩ : Dev nD) = nbr 2 c := by revert c; decide

/-- The right to signal the neighbour across axis `a` that this device is done. -/
abbrev exitTok (a : Fin 3) (c : Dev nD) : sProp 𝕄 := dutyTok ER (exitCell (nbr a c)) 0 a

theorem part34 (c : Dev nD) (v2 : BitVec 32) (v5 : BitVec 32) (v8 : BitVec 32) (v9 : BitVec 32) (v10 : BitVec 32) (Kt : (PUnit) → sProp 𝕄) :
    iprop(records m ∗ (owesE c (rem c 3) ∗ done m 2 c ∗ numP c (accN (num0 m) 3 c) ∗ denP c (accD (den0 m) 2 c)) ∗ (∃ g, outP c g) ∗ exitTok 0 c ∗ exitTok 1 c)
      ⊢ iprop(((owesE c (rem c 1) ∗ done m 2 c ∗ numP c (accN (num0 m) 3 c) ∗ denP c (accD (den0 m) 3 c) ∗ outP c (k0_pay42 (accN (num0 m) 3 c) (accD (den0 m) 3 c))) -∗ Kt ⟨⟩) -∗ run c (atBuffers k0_part34 c v2 v5 v8 v9 v10) Kt) := by
  simp only [atBuffers, k0_part34_eq_skeleton]; unfold k0_part34_skel
  simp only [Prog.lift, Prog.bind_op, Prog.bind_ret, Prog.pure_eq_ret, semSignalWord]
  iintro ⟨#HR, ⟨HO, Hdone, HN, HD⟩, ⟨%g, HX⟩, Ht0, Ht1⟩ Hk
  unfold done
  icases Hdone with ⟨Hz, HSN, HSD⟩
  iapply (wp_loadAt c (Memref.whole cc0_scratch3) _ (Finset.subset_univ _) _ (Memref.readAt_unit_zero (Elt F) cc0_scratch3 off3 _ _)) $$ [HD]; · iexact HD
  iintro HD
  iapply (wp_loadAt c (Memref.whole cc0_scratch5) _ (slabD_sub 2 _) _ (read_slabD (den0 m) 2 c _)) $$ [HSD]; · iexact HSD
  iintro HSD
  iapply (wp_loadAt c (Memref.whole cc0_scratch3) _ (Finset.subset_univ _) _ (Memref.readAt_unit_zero (Elt F) cc0_scratch3 off3 _ _)) $$ [HD]; · iexact HD
  iintro HD
  iapply (wp_storeAt c (Memref.whole cc0_scratch3) _ (accD (den0 m) 3 c) ((Memref.write_access_unit_zero_univ (Elt F) cc0_scratch3 off3 _ _ _).trans (add_slabD (den0 m) 2 c))) $$ [HD]; · iexact HD
  iintro HD
  iapply (wp_loadAt c (Memref.whole cc0_scratch2) _ (Finset.subset_univ _) _ (Memref.readAt_unit_zero (Elt F) cc0_scratch2 off4 _ _)) $$ [HN]; · iexact HN
  iintro HN
  iapply (wp_loadAt c (Memref.whole cc0_scratch3) _ (Finset.subset_univ _) _ (Memref.readAt_unit_zero (Elt F) cc0_scratch3 off3 _ _)) $$ [HD]; · iexact HD
  iintro HD
  iapply (wp_loadAt c (Memref.whole cc0_stg1_0) _ (Finset.subset_univ _) _ (Memref.readAt_unit_zero (Elt F) cc0_stg1_0 off4 _ _)) $$ [HX]; · iexact HX
  iintro HX
  iapply (wp_storeAt c (Memref.whole cc0_stg1_0) _ _ (Memref.write_access_unit_zero_univ (Elt F) cc0_stg1_0 off4 _ _ _)) $$ [HX]; · iexact HX
  iintro HX
  iapply (wp_sig m c _ 0 (dev22 c) cc0_scoped0.sem _ rfl (rem c 3) (rem c 2) rfl) $$ [HO Ht0]
  · isplitr; · iexact HR
    isplitl [HO]; · iexact HO
    isplitl [Ht0]; · iexact Ht0
    rw [show (sched m).payload ((nbr 0 c : Thread nD τ), .reg cc0_scoped0.sem) 0 0 = iprop(emp) from rfl]; iempintro
  iintro HO
  iapply (wp_sig m c _ 1 (dev23 c) cc0_scoped0.sem _ rfl (rem c 2) (rem c 1) rfl) $$ [HO Ht1]
  · isplitr; · iexact HR
    isplitl [HO]; · iexact HO
    isplitl [Ht1]; · iexact Ht1
    rw [show (sched m).payload ((nbr 1 c : Thread nD τ), .reg cc0_scoped0.sem) 0 1 = iprop(emp) from rfl]; iempintro
  iintro HO
  iapply run_ret
  iapply Hk
  isplitl [HO]; · iexact HO
  isplitl [Hz HSN HSD]
  · isplitl [Hz]; · iexact Hz
    isplitl [HSN]; · iexact HSN
    iexact HSD
  isplitl [HN]; · iexact HN
  isplitl [HD]; · iexact HD
  iexact HX

end Cert.KernelIdealRun

end
-- ==== Proof.KernelIdeal.Rows.lean ====
/-
# The rows of the numerator and of the denominator, head by head
-/
module

public import proofs.«01_k».proof.Proof.KernelIdeal.Turns
public import Idealize.ShloMosaic.Lib.Transfers

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The blocks a device reads, and the rows it has written -/

abbrev qP (c : Dev nD) : sProp 𝕄 := ((c : Thread nD τ).loc cc0_stg0_0) ↦{fullShare} qAt m c
abbrev kP (c : Dev nD) : sProp 𝕄 := ((c : Thread nD τ).loc cc0_scratch0) ↦{fullShare} kAt m c
abbrev vP (c : Dev nD) : sProp 𝕄 := ((c : Thread nD τ).loc cc0_scratch1) ↦{fullShare} vAt m c

/-- The first `n` heads' rows of the numerator (of the denominator) are written. -/
def numUpTo (n : ℕ) (c : Dev nD) : sProp 𝕄 := iprop(∃ f : Num F, ⌜∀ i : S8x4x32x128.Idx, (i 0).val < n → f i = num0 m c i⌝ ∗ numP c f)
def denUpTo (n : ℕ) (c : Dev nD) : sProp 𝕄 := iprop(∃ f : Den F, ⌜∀ i : S8x4x32.Idx, (i 0).val < n → f i = den0 m c i⌝ ∗ denP c f)

/-- The rows of `d` heads of the denominator and `n` of the numerator written, and the three blocks. -/
def work (d n : ℕ) (c : Dev nD) : sProp 𝕄 := iprop(denUpTo m d c ∗ numUpTo m n c ∗ qP m c ∗ kP m c ∗ vP m c)

/-- All rows written is the buffer at its value. -/
theorem numUpTo_all (c : Dev nD) : numUpTo m 8 c ⊢ numP c (num0 m c) := by
  unfold numUpTo
  iintro ⟨%f, %hf, H⟩
  rw [show f = num0 m c from funext fun i => hf i (i 0).isLt]
  iexact H
theorem denUpTo_all (c : Dev nD) : denUpTo m 8 c ⊢ denP c (den0 m c) := by
  unfold denUpTo
  iintro ⟨%f, %hf, H⟩
  rw [show f = den0 m c from funext fun i => hf i (i 0).isLt]
  iexact H

/-! ## Reading a head's block, and the readings of a row not used -/

section Steps
variable (c : Dev nD) (d n : ℕ)

theorem wp_readQ {α : Type} {Q : α → sProp 𝕄} (h : Fin 8) (off : Fin 4 → ℕ) (ho : off = ![0, 0, h.val, 0]) (inb)
    {hl} {k : ((Rect.unit (s := S4x32x8x128) off S4x32x1x128.size inb).toLoadRect.shape.Idx → Elt F .f32) → Prog (TpuEff nD τ sig (Elt F) Λ₀ .tc) α} :
    work m d n c ⊢ iprop((work m d n c -∗ run c (k (qHead (qAt m c) h)) Q)
      -∗ run c (.op (.load (Memref.whole cc0_stg0_0 : Memref sig .tc .vmem S4x32x8x128 .f32) (Rect.unit (s := S4x32x8x128) off S4x32x1x128.size inb).toLoadRect hl) k) Q) := by
  subst ho
  unfold work
  iintro ⟨H1, H2, Hq, Hk, Hv⟩ Hc
  iapply (wp_loadAt c (Memref.whole cc0_stg0_0) _ (Finset.subset_univ _) (qHead (qAt m c) h) rfl) $$ [Hq]; · iexact Hq
  iintro Hq
  iapply Hc
  isplitl [H1]; · iexact H1
  isplitl [H2]; · iexact H2
  isplitl [Hq]; · iexact Hq
  isplitl [Hk]; · iexact Hk
  iexact Hv

theorem wp_readK {α : Type} {Q : α → sProp 𝕄} (h : Fin 8) (off : Fin 4 → ℕ) (ho : off = ![0, 0, h.val, 0]) (inb)
    {hl} {k : ((Rect.unit (s := S4x1024x8x128) off S4x1024x1x128.size inb).toLoadRect.shape.Idx → Elt F .f32) → Prog (TpuEff nD τ sig (Elt F) Λ₀ .tc) α} :
    work m d n c ⊢ iprop((work m d n c -∗ run c (k (kHead (kAt m c) h)) Q)
      -∗ run c (.op (.load (Memref.whole cc0_scratch0 : Memref sig .tc .vmem S4x1024x8x128 .f32) (Rect.unit (s := S4x1024x8x128) off S4x1024x1x128.size inb).toLoadRect hl) k) Q) := by
  subst ho
  unfold work
  iintro ⟨H1, H2, Hq, Hk, Hv⟩ Hc
  iapply (wp_loadAt c (Memref.whole cc0_scratch0) _ (Finset.subset_univ _) (kHead (kAt m c) h) rfl) $$ [Hk]; · iexact Hk
  iintro Hk
  iapply Hc
  isplitl [H1]; · iexact H1
  isplitl [H2]; · iexact H2
  isplitl [Hq]; · iexact Hq
  isplitl [Hk]; · iexact Hk
  iexact Hv

theorem wp_readV {α : Type} {Q : α → sProp 𝕄} (h : Fin 8) (off : Fin 4 → ℕ) (ho : off = ![0, 0, h.val, 0]) (inb)
    {hl} {k : ((Rect.unit (s := S4x1024x8x128) off S4x1024x1x128.size inb).toLoadRect.shape.Idx → Elt F .f32) → Prog (TpuEff nD τ sig (Elt F) Λ₀ .tc) α} :
    work m d n c ⊢ iprop((work m d n c -∗ run c (k (vHead (vAt m c) h)) Q)
      -∗ run c (.op (.load (Memref.whole cc0_scratch1 : Memref sig .tc .vmem S4x1024x8x128 .f32) (Rect.unit (s := S4x1024x8x128) off S4x1024x1x128.size inb).toLoadRect hl) k) Q) := by
  subst ho
  unfold work
  iintro ⟨H1, H2, Hq, Hk, Hv⟩ Hc
  iapply (wp_loadAt c (Memref.whole cc0_scratch1) _ (Finset.subset_univ _) (vHead (vAt m c) h) rfl) $$ [Hv]; · iexact Hv
  iintro Hv
  iapply Hc
  isplitl [H1]; · iexact H1
  isplitl [H2]; · iexact H2
  isplitl [Hq]; · iexact Hq
  isplitl [Hk]; · iexact Hk
  iexact Hv

/-- A row read before it is written: the value goes unused. -/
theorem wp_readDen {α : Type} {Q : α → sProp 𝕄} (r : LoadRect S8x4x32) {hl} {k : (r.shape.Idx → Elt F .f32) → Prog (TpuEff nD τ sig (Elt F) Λ₀ .tc) α} :
    work m d n c ⊢ iprop((∀ v, work m d n c -∗ run c (k v) Q) -∗ run c (.op (.load (Memref.whole cc0_scratch3 : Memref sig .tc .vmem S8x4x32 .f32) r hl) k) Q) := by
  unfold work denUpTo
  iintro ⟨⟨%f, %hf, H1⟩, H2⟩ Hc
  iapply (wp_loadAt c (Memref.whole cc0_scratch3) _ (Finset.subset_univ _) _ rfl) $$ [H1]; · iexact H1
  iintro H1
  iapply Hc
  isplitl [H1]
  · iexists f
    isplitr; · ipureintro; exact hf
    iexact H1
  iexact H2
theorem wp_readNum {α : Type} {Q : α → sProp 𝕄} (r : LoadRect S8x4x32x128) {hl} {k : (r.shape.Idx → Elt F .f32) → Prog (TpuEff nD τ sig (Elt F) Λ₀ .tc) α} :
    work m d n c ⊢ iprop((∀ v, work m d n c -∗ run c (k v) Q) -∗ run c (.op (.load (Memref.whole cc0_scratch2 : Memref sig .tc .vmem S8x4x32x128 .f32) r hl) k) Q) := by
  unfold work numUpTo
  iintro ⟨H1, ⟨%f, %hf, H2⟩, H3⟩ Hc
  iapply (wp_loadAt c (Memref.whole cc0_scratch2) _ (Finset.subset_univ _) _ rfl) $$ [H2]; · iexact H2
  iintro H2
  iapply Hc
  isplitl [H1]; · iexact H1
  isplitl [H2]
  · iexists f
    isplitr; · ipureintro; exact hf
    iexact H2
  iexact H3

/-! ## Writing a head's row -/

/-- Writing head `h`'s row leaves the rows before it and puts the row in. -/
theorem row_num (h : Fin 8) (inb) (f : Num F) (hf : ∀ i : S8x4x32x128.Idx, (i 0).val < h.val → f i = num0 m c i) (i : S8x4x32x128.Idx) (hi : (i 0).val < h.val + 1) :
    ((Memref.whole cc0_scratch2).access (Rect.unit (s := S8x4x32x128) ![h.val, 0, 0, 0] S1x4x32x128.size inb)).write (Elt F) f (numHead m c h) Finset.univ i = num0 m c i := by
  by_cases hh : (i 0).val = h.val
  · let x : S1x4x32x128.Idx := fun a => match a with | 0 => (0 : Fin 1) | 1 => i 1 | 2 => i 2 | 3 => i 3
    have hx : ((Memref.whole cc0_scratch2).access (Rect.unit (s := S8x4x32x128) ![h.val, 0, 0, 0] S1x4x32x128.size inb)).emb x = i := by
      funext a
      refine Fin.ext ?_
      fin_cases a
      · show h.val + 1 * 0 = (i 0).val; omega
      · show 0 + 1 * (i 1).val = (i 1).val; omega
      · show 0 + 1 * (i 2).val = (i 2).val; omega
      · show 0 + 1 * (i 3).val = (i 3).val; omega
    refine (congrArg _ hx.symm).trans ((View.write_emb_of_mem _ _ (Finset.mem_univ x)).trans ?_)
    have h0 : i 0 = h := Fin.ext hh
    show numHead m c h x = numHead m c (i 0) x
    rw [h0]
  · rw [View.write_of_not_mem, hf i (by omega)]
    intro hm
    obtain ⟨x, -, hx⟩ := Finset.mem_map.mp hm
    apply hh
    rw [← hx]
    have hx0 : (x 0).val < 1 := (x 0).isLt
    show h.val + 1 * (x 0).val = h.val; omega
theorem row_den (h : Fin 8) (inb) (f : Den F) (hf : ∀ i : S8x4x32.Idx, (i 0).val < h.val → f i = den0 m c i) (i : S8x4x32.Idx) (hi : (i 0).val < h.val + 1) :
    ((Memref.whole cc0_scratch3).access (Rect.unit (s := S8x4x32) ![h.val, 0, 0] S1x4x32.size inb)).write (Elt F) f (denHead m c h) Finset.univ i = den0 m c i := by
  by_cases hh : (i 0).val = h.val
  · let x : S1x4x32.Idx := fun a => match a with | 0 => (0 : Fin 1) | 1 => i 1 | 2 => i 2
    have hx : ((Memref.whole cc0_scratch3).access (Rect.unit (s := S8x4x32) ![h.val, 0, 0] S1x4x32.size inb)).emb x = i := by
      funext a
      refine Fin.ext ?_
      fin_cases a
      · show h.val + 1 * 0 = (i 0).val; omega
      · show 0 + 1 * (i 1).val = (i 1).val; omega
      · show 0 + 1 * (i 2).val = (i 2).val; omega
    refine (congrArg _ hx.symm).trans ((View.write_emb_of_mem _ _ (Finset.mem_univ x)).trans ?_)
    have h0 : i 0 = h := Fin.ext hh
    show denHead m c h x = denHead m c (i 0) x
    rw [h0]
  · rw [View.write_of_not_mem, hf i (by omega)]
    intro hm
    obtain ⟨x, -, hx⟩ := Finset.mem_map.mp hm
    apply hh
    rw [← hx]
    have hx0 : (x 0).val < 1 := (x 0).isLt
    show h.val + 1 * (x 0).val = h.val; omega

theorem wp_writeDen {α : Type} {Q : α → sProp 𝕄} (h : Fin 8) (off : Fin 3 → ℕ) (ho : off = ![h.val, 0, 0]) (inb) (w : FVec F S1x4x32 .f32) (hw : w = denHead m c h)
    {hx : ((Memref.whole cc0_scratch3).access (Rect.unit (s := S8x4x32) off S1x4x32.size inb)).Stores Finset.univ} {hm} {k : PUnit → Prog (TpuEff nD τ sig (Elt F) Λ₀ .tc) α} :
    work m h.val n c ⊢ iprop((work m (h.val + 1) n c -∗ run c (k ⟨⟩) Q)
      -∗ run c (.op (.store (Memref.whole cc0_scratch3 : Memref sig .tc .vmem S8x4x32 .f32) (Rect.unit (s := S8x4x32) off S1x4x32.size inb) w Finset.univ hx hm) k) Q) := by
  subst ho hw
  unfold work denUpTo
  iintro ⟨⟨%f, %hf, H1⟩, H2⟩ Hc
  iapply (wp_storeAt c (Memref.whole cc0_scratch3) _ _ rfl) $$ [H1]; · iexact H1
  iintro H1
  iapply Hc
  isplitl [H1]
  · iexists _
    isplitr; rotate_left
    · iexact H1
    ipureintro; exact row_den m c h inb f hf
  iexact H2
theorem wp_writeNum {α : Type} {Q : α → sProp 𝕄} (h : Fin 8) (off : Fin 4 → ℕ) (ho : off = ![h.val, 0, 0, 0]) (inb) (w : FVec F S1x4x32x128 .f32) (hw : w = numHead m c h)
    {hx : ((Memref.whole cc0_scratch2).access (Rect.unit (s := S8x4x32x128) off S1x4x32x128.size inb)).Stores Finset.univ} {hm} {k : PUnit → Prog (TpuEff nD τ sig (Elt F) Λ₀ .tc) α} :
    work m d h.val c ⊢ iprop((work m d (h.val + 1) c -∗ run c (k ⟨⟩) Q)
      -∗ run c (.op (.store (Memref.whole cc0_scratch2 : Memref sig .tc .vmem S8x4x32x128 .f32) (Rect.unit (s := S8x4x32x128) off S1x4x32x128.size inb) w Finset.univ hx hm) k) Q) := by
  subst ho hw
  unfold work numUpTo
  iintro ⟨H1, ⟨%f, %hf, H2⟩, H3⟩ Hc
  iapply (wp_storeAt c (Memref.whole cc0_scratch2) _ _ rfl) $$ [H2]; · iexact H2
  iintro H2
  iapply Hc
  isplitl [H1]; · iexact H1
  isplitl [H2]
  · iexists _
    isplitr; rotate_left
    · iexact H2
    ipureintro; exact row_num m c h inb f hf
  iexact H3

end Steps

end Cert.KernelIdealRun

end
-- ==== Proof.KernelIdeal.Heads.lean ====
/-
# The parts of the body that reduce the device's own keys
-/
module

public import proofs.«01_k».proof.Proof.KernelIdeal.Rows

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Head by head -/

theorem part3 (c : Dev nD) (Kt : (Σ' (v76 : FVec F S4x1024x128 .bf16) (v80 : FVec F S4x32x1024 .f32), FVec F S4x32 .f32) → sProp 𝕄) :
    work m 0 0 c
      ⊢ iprop((work m 1 1 c -∗ Kt ⟨k0_pay7 (vHead (vAt m c) 1), k0_pay8 (qHead (qAt m c) 1) (kHead (kAt m c) 1), k0_pay9 (qHead (qAt m c) 1) (kHead (kAt m c) 1)⟩) -∗ run c (atBuffers k0_part3 (k0_pay1 (qHead (qAt m c) 0)) (k0_pay2 (kHead (kAt m c) 0)) (k0_pay3 (vHead (vAt m c) 0))) Kt) := by
  simp only [atBuffers, k0_part3_eq_skeleton]; unfold k0_part3_skel
  simp only [Prog.lift, Prog.bind_op, Prog.bind_ret, Prog.pure_eq_ret]
  iintro H Hk
  iapply (wp_readDen m c 0 0 _) $$ [H]; · iexact H
  iintro %_ H
  iapply (wp_writeDen m c 0 0 _ rfl _ _ rfl) $$ [H]; · iexact H
  iintro H
  iapply (wp_readNum m c 1 0 _) $$ [H]; · iexact H
  iintro %_ H
  iapply (wp_writeNum m c 1 0 _ rfl _ _ rfl) $$ [H]; · iexact H
  iintro H
  iapply (wp_readQ m c 1 1 1 _ rfl _) $$ [H]; · iexact H
  iintro H
  iapply (wp_readK m c 1 1 1 _ rfl _) $$ [H]; · iexact H
  iintro H
  iapply (wp_readV m c 1 1 1 _ rfl _) $$ [H]; · iexact H
  iintro H
  iapply (wp_readDen m c 1 1 _) $$ [H]; · iexact H
  iintro %_ H
  iapply run_ret; iapply Hk; iexact H

theorem part4 (c : Dev nD) (Kt : (PUnit) → sProp 𝕄) :
    work m 1 1 c
      ⊢ iprop((work m 3 3 c -∗ Kt ⟨⟩) -∗ run c (atBuffers k0_part4 (k0_pay7 (vHead (vAt m c) 1)) (k0_pay8 (qHead (qAt m c) 1) (kHead (kAt m c) 1)) (k0_pay9 (qHead (qAt m c) 1) (kHead (kAt m c) 1))) Kt) := by
  simp only [atBuffers, k0_part4_eq_skeleton]; unfold k0_part4_skel
  simp only [Prog.lift, Prog.bind_op, Prog.bind_ret, Prog.pure_eq_ret]
  iintro H Hk
  iapply (wp_writeDen m c 1 1 _ rfl _ _ rfl) $$ [H]; · iexact H
  iintro H
  iapply (wp_readNum m c 2 1 _) $$ [H]; · iexact H
  iintro %_ H
  iapply (wp_writeNum m c 2 1 _ rfl _ _ rfl) $$ [H]; · iexact H
  iintro H
  iapply (wp_readQ m c 2 2 2 _ rfl _) $$ [H]; · iexact H
  iintro H
  iapply (wp_readK m c 2 2 2 _ rfl _) $$ [H]; · iexact H
  iintro H
  iapply (wp_readV m c 2 2 2 _ rfl _) $$ [H]; · iexact H
  iintro H
  iapply (wp_readDen m c 2 2 _) $$ [H]; · iexact H
  iintro %_ H
  iapply (wp_writeDen m c 2 2 _ rfl _ _ rfl) $$ [H]; · iexact H
  iintro H
  iapply (wp_readNum m c 3 2 _) $$ [H]; · iexact H
  iintro %_ H
  iapply (wp_writeNum m c 3 2 _ rfl _ _ rfl) $$ [H]; · iexact H
  iintro H
  iapply run_ret; iapply Hk; iexact H

theorem part5 (c : Dev nD) (Kt : (Σ' (v136 : FVec F S4x32x128 .bf16), FVec F S4x1024x128 .f32) → sProp 𝕄) :
    work m 3 3 c
      ⊢ iprop((work m 4 4 c -∗ Kt ⟨k0_pay18 (qHead (qAt m c) 4), k0_pay19 (kHead (kAt m c) 4)⟩) -∗ run c (atBuffers k0_part5 ) Kt) := by
  simp only [atBuffers, k0_part5_eq_skeleton]; unfold k0_part5_skel
  simp only [Prog.lift, Prog.bind_op, Prog.bind_ret, Prog.pure_eq_ret]
  iintro H Hk
  iapply (wp_readQ m c 3 3 3 _ rfl _) $$ [H]; · iexact H
  iintro H
  iapply (wp_readK m c 3 3 3 _ rfl _) $$ [H]; · iexact H
  iintro H
  iapply (wp_readV m c 3 3 3 _ rfl _) $$ [H]; · iexact H
  iintro H
  iapply (wp_readDen m c 3 3 _) $$ [H]; · iexact H
  iintro %_ H
  iapply (wp_writeDen m c 3 3 _ rfl _ _ rfl) $$ [H]; · iexact H
  iintro H
  iapply (wp_readNum m c 4 3 _) $$ [H]; · iexact H
  iintro %_ H
  iapply (wp_writeNum m c 4 3 _ rfl _ _ rfl) $$ [H]; · iexact H
  iintro H
  iapply (wp_readQ m c 4 4 4 _ rfl _) $$ [H]; · iexact H
  iintro H
  iapply (wp_readK m c 4 4 4 _ rfl _) $$ [H]; · iexact H
  iintro H
  iapply run_ret; iapply Hk; iexact H

theorem part6 (c : Dev nD) (Kt : (Σ' (v164 : FVec F S4x1024x128 .bf16), FVec F S4x32x1024 .f32) → sProp 𝕄) :
    work m 4 4 c
      ⊢ iprop((work m 5 5 c -∗ Kt ⟨k0_pay23 (vHead (vAt m c) 5), k0_pay24 (qHead (qAt m c) 5) (kHead (kAt m c) 5)⟩) -∗ run c (atBuffers k0_part6 (k0_pay18 (qHead (qAt m c) 4)) (k0_pay19 (kHead (kAt m c) 4))) Kt) := by
  simp only [atBuffers, k0_part6_eq_skeleton]; unfold k0_part6_skel
  simp only [Prog.lift, Prog.bind_op, Prog.bind_ret, Prog.pure_eq_ret]
  iintro H Hk
  iapply (wp_readV m c 4 4 4 _ rfl _) $$ [H]; · iexact H
  iintro H
  iapply (wp_readDen m c 4 4 _) $$ [H]; · iexact H
  iintro %_ H
  iapply (wp_writeDen m c 4 4 _ rfl _ _ rfl) $$ [H]; · iexact H
  iintro H
  iapply (wp_readNum m c 5 4 _) $$ [H]; · iexact H
  iintro %_ H
  iapply (wp_writeNum m c 5 4 _ rfl _ _ rfl) $$ [H]; · iexact H
  iintro H
  iapply (wp_readQ m c 5 5 5 _ rfl _) $$ [H]; · iexact H
  iintro H
  iapply (wp_readK m c 5 5 5 _ rfl _) $$ [H]; · iexact H
  iintro H
  iapply (wp_readV m c 5 5 5 _ rfl _) $$ [H]; · iexact H
  iintro H
  iapply run_ret; iapply Hk; iexact H

theorem part7 (c : Dev nD) (Kt : (FVec F S4x32x128 .f32) → sProp 𝕄) :
    work m 5 5 c
      ⊢ iprop((work m 7 6 c -∗ Kt (k0_pay30 (qHead (qAt m c) 6) (kHead (kAt m c) 6) (vHead (vAt m c) 6))) -∗ run c (atBuffers k0_part7 (k0_pay23 (vHead (vAt m c) 5)) (k0_pay24 (qHead (qAt m c) 5) (kHead (kAt m c) 5))) Kt) := by
  simp only [atBuffers, k0_part7_eq_skeleton]; unfold k0_part7_skel
  simp only [Prog.lift, Prog.bind_op, Prog.bind_ret, Prog.pure_eq_ret]
  iintro H Hk
  iapply (wp_readDen m c 5 5 _) $$ [H]; · iexact H
  iintro %_ H
  iapply (wp_writeDen m c 5 5 _ rfl _ _ rfl) $$ [H]; · iexact H
  iintro H
  iapply (wp_readNum m c 6 5 _) $$ [H]; · iexact H
  iintro %_ H
  iapply (wp_writeNum m c 6 5 _ rfl _ _ rfl) $$ [H]; · iexact H
  iintro H
  iapply (wp_readQ m c 6 6 6 _ rfl _) $$ [H]; · iexact H
  iintro H
  iapply (wp_readK m c 6 6 6 _ rfl _) $$ [H]; · iexact H
  iintro H
  iapply (wp_readV m c 6 6 6 _ rfl _) $$ [H]; · iexact H
  iintro H
  iapply (wp_readDen m c 6 6 _) $$ [H]; · iexact H
  iintro %_ H
  iapply (wp_writeDen m c 6 6 _ rfl _ _ rfl) $$ [H]; · iexact H
  iintro H
  iapply run_ret; iapply Hk; iexact H

theorem part8 (c : Dev nD) (v2 : BitVec 32) (Kt : (BitVec 32) → sProp 𝕄) :
    work m 7 6 c
      ⊢ iprop((∀ r, work m 8 8 c -∗ Kt r) -∗ run c (atBuffers k0_part8 v2 (k0_pay30 (qHead (qAt m c) 6) (kHead (kAt m c) 6) (vHead (vAt m c) 6))) Kt) := by
  simp only [atBuffers, k0_part8_eq_skeleton]; unfold k0_part8_skel
  simp only [Prog.lift, Prog.bind_op, Prog.bind_ret, Prog.pure_eq_ret]
  iintro H Hk
  iapply (wp_readNum m c 7 6 _) $$ [H]; · iexact H
  iintro %_ H
  iapply (wp_writeNum m c 7 6 _ rfl _ _ rfl) $$ [H]; · iexact H
  iintro H
  iapply (wp_readQ m c 7 7 7 _ rfl _) $$ [H]; · iexact H
  iintro H
  iapply (wp_readK m c 7 7 7 _ rfl _) $$ [H]; · iexact H
  iintro H
  iapply (wp_readV m c 7 7 7 _ rfl _) $$ [H]; · iexact H
  iintro H
  iapply (wp_readDen m c 7 7 _) $$ [H]; · iexact H
  iintro %_ H
  iapply (wp_writeDen m c 7 7 _ rfl _ _ rfl) $$ [H]; · iexact H
  iintro H
  iapply (wp_readNum m c 8 7 _) $$ [H]; · iexact H
  iintro %_ H
  iapply (wp_writeNum m c 8 7 _ rfl _ _ rfl) $$ [H]; · iexact H
  iintro H
  iapply run_ret; iapply Hk; iexact H

end Cert.KernelIdealRun

end
-- ==== Proof.KernelIdeal.First.lean ====
/-
# The first two parts of the body: the barrier, and the device's own keys and values fetched
-/
module

public import proofs.«01_k».proof.Proof.KernelIdeal.Heads

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Telling the neighbours, and hearing from them -/

/-- The right to tell the neighbour across axis `a` that this device is up. -/
abbrev barTok (a : Fin 3) (c : Dev nD) : sProp 𝕄 := dutyTok ER (barCell (nbr a c)) 0 a

theorem part1 (c : Dev nD) (Kt : ((Σ' (d0 : Dev nD) (v2 : BitVec 32) (v5 : BitVec 32) (v8 : BitVec 32) (v9 : BitVec 32) (v10 : BitVec 32) (v11 : BitVec 32), Sems sig S_)) → sProp 𝕄) :
    iprop(records m ∗ owesE c (rem c 24) ∗ (barTok 0 c ∗ barPay (nbr 0 c) 0) ∗ (barTok 1 c ∗ barPay (nbr 1 c) 1) ∗ (barTok 2 c ∗ barPay (nbr 2 c) 2))
      ⊢ iprop((∀ w2 w5 w8 w9 w10 w11, owesE c (rem c 21) -∗ Kt ⟨c, w2, w5, w8, w9, w10, w11, SemArray.scalar (sig.barrier 0 rfl)⟩)
        -∗ run c (atBuffers k0_part1) Kt) := by
  simp only [atBuffers, k0_part1_eq_skeleton]; unfold k0_part1_skel
  simp only [Prog.lift, Prog.bind_op, Prog.bind_ret, Prog.pure_eq_ret, semSignalWord]
  iintro ⟨#HR, HO, ⟨Ht0, Hp0⟩, ⟨Ht1, Hp1⟩, ⟨Ht2, Hp2⟩⟩ Hk
  iapply (show run c _ Kt ⊢ run c (.op .deviceId _) Kt from BIBase.Entails.of_eq (wp_deviceId ..).symm)
  iapply (wp_sig m c _ 0 (dev1 c) (SemArray.scalar (sig.barrier 0 rfl)).sem _ rfl (rem c 24) (rem c 23) rfl) $$ [HO Ht0 Hp0]
  · isplitr; · iexact HR
    isplitl [HO]; · iexact HO
    isplitl [Ht0]; · iexact Ht0
    rw [show (sched m).payload ((nbr 0 c : Thread nD τ), .reg (SemArray.scalar (sig.barrier 0 rfl) : Sems sig S_).sem) 0 0 = barPay (nbr 0 c) 0 from rfl]; iexact Hp0
  iintro HO
  iapply (wp_sig m c _ 1 (dev2 c) (SemArray.scalar (sig.barrier 0 rfl)).sem _ rfl (rem c 23) (rem c 22) rfl) $$ [HO Ht1 Hp1]
  · isplitr; · iexact HR
    isplitl [HO]; · iexact HO
    isplitl [Ht1]; · iexact Ht1
    rw [show (sched m).payload ((nbr 1 c : Thread nD τ), .reg (SemArray.scalar (sig.barrier 0 rfl) : Sems sig S_).sem) 0 1 = barPay (nbr 1 c) 1 from rfl]; iexact Hp1
  iintro HO
  iapply (wp_sig m c _ 2 (dev3 c) (SemArray.scalar (sig.barrier 0 rfl)).sem _ rfl (rem c 22) (rem c 21) rfl) $$ [HO Ht2 Hp2]
  · isplitr; · iexact HR
    isplitl [HO]; · iexact HO
    isplitl [Ht2]; · iexact Ht2
    rw [show (sched m).payload ((nbr 2 c : Thread nD τ), .reg (SemArray.scalar (sig.barrier 0 rfl) : Sems sig S_).sem) 0 2 = barPay (nbr 2 c) 2 from rfl]; iexact Hp2
  iintro HO
  iapply run_ret
  iapply Hk
  iexact HO

/-! ## Fetching the keys and the values -/

/-- A whole argument the device reads a slice of. -/
abbrev argP (c : Dev nD) : sProp 𝕄 :=
  iprop((((c : Thread nD τ).loc main_arg1) ↦{fullShare} m ((c : Thread nD τ).loc main_arg1)) ∗ (((c : Thread nD τ).loc main_arg2) ↦{fullShare} m ((c : Thread nD τ).loc main_arg2)))

/-- The two counters of the local copies, at rest. -/
abbrev copySems (c : Dev nD) : sProp 𝕄 := iprop(semVal ((c : Thread nD τ), .dma 2) 0 ∗ semVal ((c : Thread nD τ), .dma 3) 0)

/-- With nothing written yet, any contents will do. -/
theorem work_intro (c : Dev nD) : iprop((∃ f, denP c f) ∗ (∃ f, numP c f) ∗ qP m c ∗ kP m c ∗ vP m c) ⊢ work m 0 0 c := by
  unfold work denUpTo numUpTo
  iintro ⟨⟨%f3, HD⟩, ⟨%f2, HN⟩, H⟩
  isplitl [HD]
  · iexists f3
    isplitr; · ipureintro; exact fun i hi => absurd hi (Nat.not_lt_zero _)
    iexact HD
  isplitl [HN]
  · iexists f2
    isplitr; · ipureintro; exact fun i hi => absurd hi (Nat.not_lt_zero _)
    iexact HN
  iexact H

theorem part2 (c : Dev nD) (w2 w8 : BitVec 32) (Kt : ((Σ' (v48 : FVec F S4x32x128 .bf16) (v51 : FVec F S4x1024x128 .bf16), FVec F S4x1024x128 .bf16)) → sProp 𝕄) :
    iprop(records m ∗ levAts L lv ∗ owesE c (rem c 21) ∗ cred (tallyAt (barCell c) () 3) ∗ atPos ER (barCell c) 0 ∅ 0
        ∗ argP m c ∗ copySems c ∗ (∃ f, ((c : Thread nD τ).loc cc0_scratch0) ↦{fullShare} f) ∗ (∃ f, ((c : Thread nD τ).loc cc0_scratch1) ↦{fullShare} f)
        ∗ (∃ f, denP c f) ∗ (∃ f, numP c f) ∗ qP m c)
      ⊢ iprop(((owesE c (rem c 21) ∗ semVal (barCell c) 0 ∗ bigSep Finset.univ (fun a : Fin 3 => barPay c a) ∗ argP m c ∗ copySems c ∗ work m 0 0 c)
            -∗ Kt ⟨k0_pay1 (qHead (qAt m c) 0), k0_pay2 (kHead (kAt m c) 0), k0_pay3 (vHead (vAt m c) 0)⟩)
        -∗ run c (atBuffers k0_part2 c w2 w8 (SemArray.scalar (sig.barrier 0 rfl))) Kt) := by
  simp only [atBuffers, k0_part2_eq_skeleton]; unfold k0_part2_skel
  simp only [Prog.lift, Prog.bind_op, Prog.bind_ret, Prog.pure_eq_ret, semWaitWord]
  iintro ⟨#HR, #Hlev, HO, Hc, Hat, ⟨H1, H2⟩, ⟨Hz2, Hz3⟩, ⟨%f0, HK⟩, ⟨%f1, HV⟩, ⟨%f3, HD⟩, ⟨%f2, HN⟩, HQ⟩ Hk
  iapply (wp_wait3 m c (SemArray.scalar (sig.barrier 0 rfl)).sem _ 21 rfl (by decide)) $$ [HO Hc Hat]
  · isplitr; · iexact HR
    isplitr; · iexact Hlev
    isplitl [HO]; · iexact HO
    isplitl [Hc]; · iexact Hc
    iexact Hat
  iintro ⟨HO, HzB, HB⟩
  ihave H1 := (pointsTo_split_subset (ℓ := (c : Thread nD τ).loc main_arg1) (Finset.subset_univ (((Memref.whole main_arg1).slice (Rect.unit (s := S4x4096x8x128) (k0_off1 c) S4x1024x8x128.size (k0_off1_inb c)) (fun _ => rfl)).view.set))).1 $$ H1
  icases H1 with ⟨H1, H1'⟩
  ihave H2 := (pointsTo_split_subset (ℓ := (c : Thread nD τ).loc main_arg2) (Finset.subset_univ (((Memref.whole main_arg2).slice (Rect.unit (s := S4x4096x8x128) (k0_off1 c) S4x1024x8x128.size (k0_off1_inb c)) (fun _ => rfl)).view.set))).1 $$ H2
  icases H2 with ⟨H2, H2'⟩
  iapply (Transfers.wp_dmaLocal countersEmb 𝒱₀ (c : Thread nD τ) none (Sd := Finset.univ) () 524288 rfl (by decide) (Finset.subset_univ _)) $$ [H1 HK Hz2]
  · isplitl [H1]; · iexact H1
    isplitl [HK]; · iexact HK
    iexact Hz2
  iintro F1
  iapply (Transfers.wp_dmaLocal countersEmb 𝒱₀ (c : Thread nD τ) none (Sd := Finset.univ) () 524288 rfl (by decide) (Finset.subset_univ _)) $$ [H2 HV Hz3]
  · isplitl [H2]; · iexact H2
    isplitl [HV]; · iexact HV
    iexact Hz3
  iintro F2
  ihave HO := (show owesE c (rem c 21) ⊢ iprop(∃ W, owes (c : Thread nD τ) (rem c 21) W) from BIBase.Entails.rfl) $$ HO
  icases HO with ⟨%W, HO⟩
  iapply (Transfers.wp_waitLocalO countersEmb 𝒱₀ (c : Thread nD τ) none () (N := 524288) rfl) $$ [F1 HO]
  · isplitl [F1]; · iexact F1
    isplitl [HO]; · iexact HO
    iapply (mayWait c _ 21 (by decide)); iexact Hlev
  iintro ⟨⟨HK, H1⟩, Hz2, HO⟩
  ihave H1 := (pointsTo_split_subset (ℓ := (c : Thread nD τ).loc main_arg1) (Finset.subset_univ (((Memref.whole main_arg1).slice (Rect.unit (s := S4x4096x8x128) (k0_off1 c) S4x1024x8x128.size (k0_off1_inb c)) (fun _ => rfl)).view.set))).2 $$ [H1 H1']
  · isplitl [H1]; · iexact H1
    iexact H1'
  ihave HK := (BIBase.Entails.of_eq (congrArg (fun f => (View.loc (c : Thread nD τ) (Memref.whole cc0_scratch0).view ↦{fullShare} f : sProp 𝕄))
      (show (Memref.whole cc0_scratch0).view.write (Elt F) f0 (ReadAs.same.apply (((Memref.whole main_arg1).slice (Rect.unit (s := S4x4096x8x128) (k0_off1 c) ![4, 1024, 8, 128] (k0_off1_inb c)) (fun _ => rfl)).view.read (Elt F)
          (m ((c : Thread nD τ).loc main_arg1)))) Finset.univ = kAt m c from View.write_whole_univ cc0_scratch0 f0 (kAt m c)))) $$ HK
  iapply (Transfers.wp_waitLocalO countersEmb 𝒱₀ (c : Thread nD τ) none () (N := 524288) rfl) $$ [F2 HO]
  · isplitl [F2]; · iexact F2
    isplitl [HO]; · iexact HO
    iapply (mayWait c _ 21 (by decide)); iexact Hlev
  iintro ⟨⟨HV, H2⟩, Hz3, HO⟩
  ihave H2 := (pointsTo_split_subset (ℓ := (c : Thread nD τ).loc main_arg2) (Finset.subset_univ (((Memref.whole main_arg2).slice (Rect.unit (s := S4x4096x8x128) (k0_off1 c) S4x1024x8x128.size (k0_off1_inb c)) (fun _ => rfl)).view.set))).2 $$ [H2 H2']
  · isplitl [H2]; · iexact H2
    iexact H2'
  ihave HV := (BIBase.Entails.of_eq (congrArg (fun f => (View.loc (c : Thread nD τ) (Memref.whole cc0_scratch1).view ↦{fullShare} f : sProp 𝕄))
      (show (Memref.whole cc0_scratch1).view.write (Elt F) f1 (ReadAs.same.apply (((Memref.whole main_arg2).slice (Rect.unit (s := S4x4096x8x128) (k0_off1 c) ![4, 1024, 8, 128] (k0_off1_inb c)) (fun _ => rfl)).view.read (Elt F)
          (m ((c : Thread nD τ).loc main_arg2)))) Finset.univ = vAt m c from View.write_whole_univ cc0_scratch1 f1 (vAt m c)))) $$ HV
  ihave H := (show iprop((∃ f, denP c f) ∗ (∃ f, numP c f) ∗ qP m c ∗ kP m c ∗ vP m c) ⊢ work m 0 0 c from work_intro m c) $$ [HD HN HQ HK HV]
  · isplitl [HD]; · iexists f3; iexact HD
    isplitl [HN]; · iexists f2; iexact HN
    isplitl [HQ]; · iexact HQ
    isplitl [HK]; · iexact HK
    iexact HV
  iapply (wp_readQ m c 0 0 0 _ rfl _) $$ [H]; · iexact H
  iintro H
  iapply (wp_readK m c 0 0 0 _ rfl _) $$ [H]; · iexact H
  iintro H
  iapply (wp_readV m c 0 0 0 _ rfl _) $$ [H]; · iexact H
  iintro H
  iapply run_ret
  iapply Hk
  isplitl [HO]; · unfold owesE; iexists _; iexact HO
  isplitl [HzB]; · iexact HzB
  isplitl [HB]; · iexact HB
  isplitl [H1 H2]
  · isplitl [H1]; · iexact H1
    iexact H2
  isplitl [Hz2 Hz3]
  · isplitl [Hz2]; · iexact Hz2
    iexact Hz3
  iexact H

end Cert.KernelIdealRun

end
-- ==== Proof.KernelIdeal.Slots.lean ====
/-
# Handing the landing slots out and taking the neighbours' in
-/
module

public import proofs.«01_k».proof.Proof.KernelIdeal.Adds

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem bigSep_three (Φ : Fin 3 → sProp 𝕄) : bigSep Finset.univ Φ = iprop(Φ 0 ∗ Φ 1 ∗ Φ 2) := by
  have e : (Finset.univ : Finset (Fin 3)) = insert 0 (insert 1 {2}) := by decide
  rw [e, bigSep_insert (by decide), bigSep_insert (by decide), bigSep_singleton]
  rfl

/-- Axis, stage and kind against stage and lane. -/
def laneEq : Fin 3 × (Fin 3 × Fin 2) ≃ Fin 3 × Fin 6 where
  toFun x := (x.2.1, laneAt x.1 x.2.1 x.2.2)
  invFun y := (ax y.1 (y.2.val / 2), y.1, ⟨y.2.val % 2, Nat.mod_lt _ (by decide)⟩)
  left_inv := by decide
  right_inv := by decide

theorem ax_laneAt (a s : Fin 3) (b : Fin 2) : ax s ((laneAt a s b).val / 2) = a := by revert a s b; decide

/-- Slots told by stage and lane are slots told by axis. -/
theorem by_axis (Φ : Fin 3 → Fin 3 → Fin 6 → sProp 𝕄) :
    (bigSep Finset.univ fun s : Fin 3 => bigSep Finset.univ fun l : Fin 6 => Φ (ax s (l.val / 2)) s l)
      = bigSep Finset.univ fun a : Fin 3 => bigSep Finset.univ fun sb : Fin 3 × Fin 2 => Φ a sb.1 (laneAt a sb.1 sb.2) := by
  rw [← bigSep_univ_prod (fun sl : Fin 3 × Fin 6 => Φ (ax sl.1 (sl.2.val / 2)) sl.1 sl.2), bigSep_univ_equiv laneEq,
    ← bigSep_univ_prod (fun x : Fin 3 × (Fin 3 × Fin 2) => Φ x.1 x.2.1 (laneAt x.1 x.2.1 x.2.2))]
  refine bigSep_congr fun x _ => ?_
  show Φ (ax x.2.1 ((laneAt x.1 x.2.1 x.2.2).val / 2)) x.2.1 (laneAt x.1 x.2.1 x.2.2) = _
  rw [ax_laneAt]

/-- One stage's slabs, lane by lane. -/
theorem slab_slots (s : Fin 3) (c : Dev nD) (f : FVec F S3x8x4x32x128 .f32) (g : FVec F S3x8x4x32 .f32) :
    iprop((((c : Thread nD τ).loc cc0_scratch4) ↦[Finset.univ.filter fun i : S3x8x4x32x128.Idx => (i 0).val = s.val]{fullShare} f)
        ∗ (((c : Thread nD τ).loc cc0_scratch5) ↦[Finset.univ.filter fun i : S3x8x4x32.Idx => (i 0).val = s.val]{fullShare} g) : sProp 𝕄)
      ⊢ bigSep Finset.univ fun l : Fin 6 => slotP s l c := by
  have en (l : Fin 6) (hl : l.val % 2 = 0) : slotP (F := F) s l c = iprop(∃ f, ((c : Thread nD τ).loc cc0_scratch4) ↦[landNumSet s (l.val / 2)]{fullShare} f) := if_pos hl
  have ed (l : Fin 6) (hl : ¬ l.val % 2 = 0) : slotP (F := F) s l c = iprop(∃ f, ((c : Thread nD τ).loc cc0_scratch5) ↦[landDenSet s (l.val / 2)]{fullShare} f) := if_neg hl
  rw [slabN_parts, slabD_parts, bigSep_six, en 0 (by decide), ed 1 (by decide), en 2 (by decide), ed 3 (by decide), en 4 (by decide), ed 5 (by decide)]
  iintro ⟨⟨H0, H2, H4⟩, H1, H3, H5⟩
  isplitl [H0]; · iexists f; iexact H0
  isplitl [H1]; · iexists g; iexact H1
  isplitl [H2]; · iexists f; iexact H2
  isplitl [H3]; · iexists g; iexact H3
  isplitl [H4]; · iexists f; iexact H4
  iexists g; iexact H5

/-- The two landing buffers are the slots the three neighbours write. -/
theorem own_slots (c : Dev nD) :
    iprop((∃ f, ((c : Thread nD τ).loc cc0_scratch4) ↦{fullShare} f) ∗ (∃ g, ((c : Thread nD τ).loc cc0_scratch5) ↦{fullShare} g) : sProp 𝕄)
      ⊢ iprop(barPay (nbr 0 c) 0 ∗ barPay (nbr 1 c) 1 ∗ barPay (nbr 2 c) 2) := by
  rw [← bigSep_three (fun a => barPay (nbr a c) a)]
  have e : (bigSep Finset.univ fun a : Fin 3 => barPay (F := F) (nbr a c) a)
      = bigSep Finset.univ fun s : Fin 3 => bigSep Finset.univ fun l : Fin 6 => slotP s l c := by
    rw [by_axis fun _ s l => slotP s l c]
    refine bigSep_congr fun a _ => ?_
    unfold barPay
    rw [nbr_nbr]
  rw [e, bigSep_three]
  iintro ⟨⟨%f, H4⟩, ⟨%g, H5⟩⟩
  ihave H4 := (BIBase.Entails.of_eq (pointsTo_three (ℓ := (c : Thread nD τ).loc cc0_scratch4) Finset.univ (fun i : S3x8x4x32x128.Idx => (i 0).val) (fun i => (i 0).isLt) f)) $$ H4
  ihave H5 := (BIBase.Entails.of_eq (pointsTo_three (ℓ := (c : Thread nD τ).loc cc0_scratch5) Finset.univ (fun i : S3x8x4x32.Idx => (i 0).val) (fun i => (i 0).isLt) g)) $$ H5
  icases H4 with ⟨A0, A1, A2⟩
  icases H5 with ⟨B0, B1, B2⟩
  isplitl [A0 B0]
  · iapply (slab_slots 0 c f g)
    isplitl [A0]; · iexact A0
    iexact B0
  isplitl [A1 B1]
  · iapply (slab_slots 1 c f g)
    isplitl [A1]; · iexact A1
    iexact B1
  iapply (slab_slots 2 c f g)
  isplitl [A2]; · iexact A2
  iexact B2

/-- The rights to the transfers of stage `s`: at home for the source, across for the landing. -/
def kitToks (s : Fin 3) (c : Dev nD) : sProp 𝕄 :=
  bigSep Finset.univ fun l : Fin 6 => iprop(dutyTok ER (sendCell s l c) 0 0 ∗ dutyTok ER (recvCell s l (nbr (ax s (l.val / 2)) c)) 0 0)

/-- With what the neighbours handed over, that is all a stage's transfers need. -/
theorem kits (c : Dev nD) :
    iprop(bigSep Finset.univ (fun a : Fin 3 => barPay c a) ∗ kitToks 0 c ∗ kitToks 1 c ∗ kitToks 2 c : sProp 𝕄) ⊢ iprop(kit 0 c ∗ kit 1 c ∗ kit 2 c) := by
  rw [show (bigSep Finset.univ fun a : Fin 3 => barPay (F := F) c a) = _ from (by_axis fun a s l => slotP s l (nbr a c)).symm,
    ← bigSep_three (fun s => kitToks s c), ← bigSep_three (fun s => kit s c)]
  unfold kitToks kit
  rw [← bigSep_sep']
  exact BIBase.Entails.of_eq (bigSep_congr fun s _ => (bigSep_sep' _ _ _).symm)

end Cert.KernelIdealRun

end
-- ==== Proof.KernelIdeal.Body.lean ====
/-
# The body, start to end
-/
module

public import proofs.«01_k».proof.Proof.KernelIdeal.First
public import proofs.«01_k».proof.Proof.KernelIdeal.Slots
public import proofs.«01_k».proof.Proof.KernelIdeal.Turns

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Composing the pieces -/

theorem run_bind {α β : Type} (c : Dev nD) (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q :=
  BIBase.Entails.of_eq (wp_bind _ _ _ p k Q).symm

/-- Three parts of a buffer, each at its own contents, are the buffer. -/
theorem join_three {ℓ : Loc nD τ sig} (g : Idx ℓ → ℕ) (hg : ∀ i, g i < 3) (f₀ f₁ f₂ : Buf (Elt F) ℓ) :
    iprop((ℓ ↦[Finset.univ.filter fun i => g i = 0]{fullShare} f₀) ∗ (ℓ ↦[Finset.univ.filter fun i => g i = 1]{fullShare} f₁)
      ∗ (ℓ ↦[Finset.univ.filter fun i => g i = 2]{fullShare} f₂) : sProp 𝕄) ⊢ iprop(∃ f, ℓ ↦{fullShare} f) := by
  let f : Buf (Elt F) ℓ := fun i => if g i = 0 then f₀ i else if g i = 1 then f₁ i else f₂ i
  have e0 : (ℓ ↦[Finset.univ.filter fun i => g i = 0]{fullShare} f₀ : sProp 𝕄) = (ℓ ↦[Finset.univ.filter fun i => g i = 0]{fullShare} f) :=
    pointsTo_congr fun i hi => (if_pos (Finset.mem_filter.mp hi).2).symm
  have e1 : (ℓ ↦[Finset.univ.filter fun i => g i = 1]{fullShare} f₁ : sProp 𝕄) = (ℓ ↦[Finset.univ.filter fun i => g i = 1]{fullShare} f) :=
    pointsTo_congr fun i hi => by
      have hi := (Finset.mem_filter.mp hi).2
      show _ = if g i = 0 then f₀ i else if g i = 1 then f₁ i else f₂ i
      rw [if_neg (by omega), if_pos hi]
  have e2 : (ℓ ↦[Finset.univ.filter fun i => g i = 2]{fullShare} f₂ : sProp 𝕄) = (ℓ ↦[Finset.univ.filter fun i => g i = 2]{fullShare} f) :=
    pointsTo_congr fun i hi => by
      have hi := (Finset.mem_filter.mp hi).2
      show _ = if g i = 0 then f₀ i else if g i = 1 then f₁ i else f₂ i
      rw [if_neg (by omega), if_neg (by omega)]
  rw [e0, e1, e2, ← pointsTo_three Finset.univ g hg f]
  iintro H
  iexists f
  iexact H

/-- The landing buffers whole again. -/
theorem slabs_back (c : Dev nD) :
    iprop((slabNP m 0 c ∗ slabDP m 0 c) ∗ (slabNP m 1 c ∗ slabDP m 1 c) ∗ (slabNP m 2 c ∗ slabDP m 2 c))
      ⊢ iprop((∃ f, ((c : Thread nD τ).loc cc0_scratch4) ↦{fullShare} f) ∗ (∃ f, ((c : Thread nD τ).loc cc0_scratch5) ↦{fullShare} f)) := by
  iintro ⟨⟨N0, D0⟩, ⟨N1, D1⟩, N2, D2⟩
  isplitl [N0 N1 N2]
  · iapply (join_three (ℓ := (c : Thread nD τ).loc cc0_scratch4) (fun i : S3x8x4x32x128.Idx => (i 0).val) (fun i => (i 0).isLt) _ _ _)
    isplitl [N0]; · iexact N0
    isplitl [N1]; · iexact N1
    iexact N2
  iapply (join_three (ℓ := (c : Thread nD τ).loc cc0_scratch5) (fun i : S3x8x4x32.Idx => (i 0).val) (fun i => (i 0).isLt) _ _ _)
  isplitl [D0]; · iexact D0
  isplitl [D1]; · iexact D1
  iexact D2

/-! ## The whole body -/

/-- A buffer at any contents. -/
abbrev anyP (ℓ : Loc nD τ sig) : sProp 𝕄 := iprop(∃ f, ℓ ↦{fullShare} f)

/-- The six scratch buffers. -/
def scratchP (c : Dev nD) : sProp 𝕄 :=
  iprop(anyP ((c : Thread nD τ).loc cc0_scratch0) ∗ anyP ((c : Thread nD τ).loc cc0_scratch1) ∗ anyP ((c : Thread nD τ).loc cc0_scratch2) ∗ anyP ((c : Thread nD τ).loc cc0_scratch3) ∗ anyP ((c : Thread nD τ).loc cc0_scratch4) ∗ anyP ((c : Thread nD τ).loc cc0_scratch5))

/-- The rights a device starts with: to its signals and transfers, and to its waits. -/
def rights (c : Dev nD) : sProp 𝕄 :=
  iprop((barTok 0 c ∗ barTok 1 c ∗ barTok 2 c) ∗ (exitTok 0 c ∗ exitTok 1 c ∗ exitTok 2 c)
    ∗ (kitToks 0 c ∗ kitToks 1 c ∗ kitToks 2 c) ∗ (held 0 c ∗ held 1 c ∗ held 2 c)
    ∗ (cred (tallyAt (barCell c) () 3) ∗ atPos ER (barCell c) 0 ∅ 0) ∗ cred (tallyAt (exitCell c) () 3) ∗ atPos ER (exitCell c) 0 ∅ 0)

/-- Every counter of the run at rest. -/
def rested (c : Dev nD) : sProp 𝕄 :=
  iprop(semVal (barCell c) 0 ∗ semVal (exitCell c) 0 ∗ copySems c ∗ sems 0 c ∗ sems 1 c ∗ sems 2 c)

/-- What device `c` computes. -/
def result (c : Dev nD) : FVec F S4x32x8x128 .f32 := k0_pay42 (accN (num0 m) 3 c) (accD (den0 m) 3 c)

set_option pp.maxSteps 300 in
theorem body (c : Dev nD) (Kt : PUnit → sProp 𝕄) :
    iprop(records m ∗ levAts L lv ∗ owesE c (rem c 24) ∗ rights c ∗ argP m c ∗ copySems c ∗ scratchP c ∗ qP m c ∗ (∃ g, outP c g))
      ⊢ iprop(((owesE c (rem c 0) ∗ rested c ∗ argP m c ∗ scratchP c ∗ qP m c ∗ outP c (result m c)) -∗ Kt ⟨⟩)
        -∗ run c (atBuffers (cc0_body (F := F))) Kt) := by
  simp only [atBuffers, cc0_body_eq_skeleton]; unfold cc0_body_skel
  unfold rights scratchP rested
  iintro ⟨#HR, #Hlev, HO, ⟨⟨Hb0, Hb1, Hb2⟩, ⟨He0, He1, He2⟩, ⟨Ht0, Ht1, Ht2⟩, ⟨Hh0, Hh1, Hh2⟩, ⟨HcB, HaB⟩, HcX, HaX⟩, HA, Hcs, ⟨HK, HV, HN, HD, HSN, HSD⟩, HQ, HX⟩ Hk
  ihave Hs := (own_slots (F := F) c) $$ [HSN HSD]
  · isplitl [HSN]; · iexact HSN
    iexact HSD
  icases Hs with ⟨Hp0, Hp1, Hp2⟩
  iapply run_bind
  iapply (part1 m c _) $$ [HO Hb0 Hb1 Hb2 Hp0 Hp1 Hp2]
  · isplitr; · iexact HR
    isplitl [HO]; · iexact HO
    isplitl [Hb0 Hp0]
    · isplitl [Hb0]; · iexact Hb0
      iexact Hp0
    isplitl [Hb1 Hp1]
    · isplitl [Hb1]; · iexact Hb1
      iexact Hp1
    isplitl [Hb2]; · iexact Hb2
    iexact Hp2
  iintro %v2 %v5 %v8 %v9 %v10 %v11 HO
  iapply run_bind
  iapply (part2 m c v2 v8 _) $$ [HO HcB HaB HA Hcs HK HV HD HN HQ]
  · isplitr; · iexact HR
    isplitr; · iexact Hlev
    isplitl [HO]; · iexact HO
    isplitl [HcB]; · iexact HcB
    isplitl [HaB]; · iexact HaB
    isplitl [HA]; · iexact HA
    isplitl [Hcs]; · iexact Hcs
    isplitl [HK]; · iexact HK
    isplitl [HV]; · iexact HV
    isplitl [HD]; · iexact HD
    isplitl [HN]; · iexact HN
    iexact HQ
  iintro ⟨HO, HzB, HB, HA, Hcs, H⟩
  ihave Hkits := (kits (F := F) c) $$ [HB Ht0 Ht1 Ht2]
  · isplitl [HB]; · iexact HB
    isplitl [Ht0]; · iexact Ht0
    isplitl [Ht1]; · iexact Ht1
    iexact Ht2
  icases Hkits with ⟨Hk0, Hk1, Hk2⟩
  iapply run_bind
  iapply (part3 m c _) $$ [H]
  · iexact H
  iintro H
  iapply run_bind
  iapply (part4 m c _) $$ [H]
  · iexact H
  iintro H
  iapply run_bind
  iapply (part5 m c _) $$ [H]
  · iexact H
  iintro H
  iapply run_bind
  iapply (part6 m c _) $$ [H]
  · iexact H
  iintro H
  iapply run_bind
  iapply (part7 m c _) $$ [H]
  · iexact H
  iintro H
  iapply run_bind
  iapply (part8 m c v2 _) $$ [H]
  · iexact H
  iintro %v222 H
  unfold work
  icases H with ⟨HD, HN, HQ, HK, HV⟩
  ihave HD := (denUpTo_all m c) $$ HD
  ihave HN := (numUpTo_all m c) $$ HN
  ihave H := (begin_stage m 0 c) $$ [HO HD HN Hk0]
  · isplitl [HO]; · iexact HO
    isplitl [HN HD]
    · isplitl [HN]; · iexact HN
      iexact HD
    iexact Hk0
  iapply run_bind
  iapply (part9 m c v5 v8 v222 _) $$ [H]
  · isplitr; · iexact HR
    iexact H
  iintro %v249 H
  iapply run_bind
  iapply (part10 m c v2 v8 v249 _) $$ [H]
  · isplitr; · iexact HR
    iexact H
  iintro %c1_i32_278 H
  iapply run_bind
  iapply (part11 m c v2 v5 v8 c1_i32_278 _) $$ [H]
  · isplitr; · iexact HR
    iexact H
  iintro %v276 H
  iapply run_bind
  iapply (part12 m c v5 v8 v222 _) $$ [H Hh0]
  · isplitr; · iexact HR
    isplitr; · iexact Hlev
    isplitl [H]; · iexact H
    iexact Hh0
  iintro %_ H
  iapply run_bind
  iapply (part13 m c v5 v8 v222 _) $$ [H]
  · isplitr; · iexact HR
    isplitr; · iexact Hlev
    iexact H
  iintro %_ H
  iapply run_bind
  iapply (part14 m c v2 v8 v249 _) $$ [H]
  · isplitr; · iexact HR
    isplitr; · iexact Hlev
    iexact H
  iintro %_ H
  iapply run_bind
  iapply (part15 m c v2 v5 v276 _) $$ [H]
  · isplitr; · iexact HR
    isplitr; · iexact Hlev
    iexact H
  iintro %_ H
  iapply run_bind
  iapply (part16 m c v2 v5 v276 _) $$ [H]
  · isplitr; · iexact HR
    isplitr; · iexact Hlev
    iexact H
  iintro H
  iapply run_bind
  iapply (part17 m c v2 v5 v8 _) $$ [H Hk1]
  · isplitr; · iexact HR
    isplitl [H]; · iexact H
    iexact Hk1
  iintro %v413 ⟨Hd0, H⟩
  iapply run_bind
  iapply (part18 m c v2 v5 v8 v413 _) $$ [H]
  · isplitr; · iexact HR
    iexact H
  iintro %v440 H
  iapply run_bind
  iapply (part19 m c v2 v5 v8 v440 _) $$ [H]
  · isplitr; · iexact HR
    iexact H
  iintro %v467 H
  iapply run_bind
  iapply (part20 m c v2 v5 v8 v413 v467 _) $$ [H Hh1]
  · isplitr; · iexact HR
    isplitr; · iexact Hlev
    isplitl [H]; · iexact H
    iexact Hh1
  iintro %v502 H
  iapply run_bind
  iapply (part21 m c v2 v8 v413 v502 _) $$ [H]
  · isplitr; · iexact HR
    isplitr; · iexact Hlev
    iexact H
  iintro %_ H
  iapply run_bind
  iapply (part22 m c v2 v5 v440 _) $$ [H]
  · isplitr; · iexact HR
    isplitr; · iexact Hlev
    iexact H
  iintro %_ H
  iapply run_bind
  iapply (part23 m c v2 v5 v440 _) $$ [H]
  · isplitr; · iexact HR
    isplitr; · iexact Hlev
    iexact H
  iintro %_ H
  iapply run_bind
  iapply (part24 m c v5 v8 v467 _) $$ [H]
  · isplitr; · iexact HR
    isplitr; · iexact Hlev
    iexact H
  iintro %_ H
  iapply run_bind
  iapply (part25 m c v2 v8 _) $$ [H Hk2]
  · isplitr; · iexact HR
    isplitr; · iexact Hlev
    isplitl [H]; · iexact H
    iexact Hk2
  iintro %r ⟨Hd1, H⟩
  obtain ⟨v604, v606⟩ := r
  iapply run_bind
  iapply (part26 m c v2 v5 v604 v606 _) $$ [H]
  · isplitr; · iexact HR
    iexact H
  iintro %r H
  obtain ⟨v631, v632⟩ := r
  iapply run_bind
  iapply (part27 m c v5 v8 v631 v632 _) $$ [H]
  · isplitr; · iexact HR
    iexact H
  iintro %v658 H
  iapply run_bind
  iapply (part28 m c v2 v8 v658 _) $$ [H]
  · isplitr; · iexact HR
    iexact H
  iintro %_ H
  iapply run_bind
  iapply (part29 m c v2 v5 v604 _) $$ [H Hh2]
  · isplitr; · iexact HR
    isplitr; · iexact Hlev
    isplitl [H]; · iexact H
    iexact Hh2
  iintro %_ H
  iapply run_bind
  iapply (part30 m c v2 v5 v604 v631 _) $$ [H]
  · isplitr; · iexact HR
    isplitr; · iexact Hlev
    iexact H
  iintro %r H
  obtain ⟨v723, v724⟩ := r
  iapply run_bind
  iapply (part31 m c v5 v8 v631 v723 v724 _) $$ [H]
  · isplitr; · iexact HR
    isplitr; · iexact Hlev
    iexact H
  iintro %_ H
  iapply run_bind
  iapply (part32 m c v2 v8 v658 _) $$ [H]
  · isplitr; · iexact HR
    isplitr; · iexact Hlev
    iexact H
  iintro %_ H
  iapply run_bind
  iapply (part33 m c v2 v8 v658 _) $$ [H]
  · isplitr; · iexact HR
    isplitr; · iexact Hlev
    iexact H
  iintro H
  iapply run_bind
  iapply (part34 m c v2 v5 v8 v9 v10 _) $$ [H HX He0 He1]
  · isplitr; · iexact HR
    isplitl [H]; · iexact H
    isplitl [HX]; · iexact HX
    isplitl [He0]; · iexact He0
    iexact He1
  iintro ⟨HO, Hd2, HN, HD, HX⟩
  simp only [Prog.lift, Prog.bind_op, Prog.bind_ret, Prog.pure_eq_ret, semSignalWord, semWaitWord]
  iapply (wp_sig m c _ 2 (dev24 c) cc0_scoped0.sem _ rfl (rem c 1) (rem c 0) rfl) $$ [HO He2]
  · isplitr; · iexact HR
    isplitl [HO]; · iexact HO
    isplitl [He2]; · iexact He2
    rw [show (sched m).payload ((nbr 2 c : Thread nD τ), .reg cc0_scoped0.sem) 0 2 = iprop(emp) from rfl]; iempintro
  iintro HO
  iapply (wp_wait3 m c cc0_scoped0.sem _ 0 rfl (by decide)) $$ [HO HcX HaX]
  · isplitr; · iexact HR
    isplitr; · iexact Hlev
    isplitl [HO]; · iexact HO
    isplitl [HcX]; · iexact HcX
    iexact HaX
  iintro ⟨HO, HzX, HE⟩
  iapply run_ret
  iapply Hk
  unfold done
  icases Hd0 with ⟨Hz0, Hs0⟩
  icases Hd1 with ⟨Hz1, Hs1⟩
  icases Hd2 with ⟨Hz2, Hs2⟩
  ihave Hsl := (slabs_back m c) $$ [Hs0 Hs1 Hs2]
  · isplitl [Hs0]; · iexact Hs0
    isplitl [Hs1]; · iexact Hs1
    iexact Hs2
  icases Hsl with ⟨HSN, HSD⟩
  isplitl [HO]; · iexact HO
  isplitl [HzB HzX Hcs Hz0 Hz1 Hz2]
  · isplitl [HzB]; · iexact HzB
    isplitl [HzX]; · iexact HzX
    isplitl [Hcs]; · iexact Hcs
    isplitl [Hz0]; · iexact Hz0
    isplitl [Hz1]; · iexact Hz1
    iexact Hz2
  isplitl [HA]; · iexact HA
  isplitl [HK HV HN HD HSN HSD]
  · isplitl [HK]; · iexists _; iexact HK
    isplitl [HV]; · iexists _; iexact HV
    isplitl [HN]; · iexists _; iexact HN
    isplitl [HD]; · iexists _; iexact HD
    isplitl [HSN]; · iexact HSN
    iexact HSD
  isplitl [HQ]; · iexact HQ
  iexact HX

end Cert.KernelIdealRun

end
-- ==== Proof.KernelIdeal.Deal.lean ====
/-
# Dealing the semaphores, the tokens and the credit
-/
module

public import proofs.«01_k».proof.Proof.KernelIdeal.Body

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores, listed -/

theorem csem_injective : Function.Injective csem := by decide +kernel

/-- The two semaphores of each transfer. -/
def sendE : Fin 3 × Fin 6 ↪ SemLoc sig := ⟨fun x => .dma (sendQ x.1 x.2), by decide +kernel⟩
def recvE : Fin 3 × Fin 6 ↪ SemLoc sig := ⟨fun x => .dma (recvQ x.1 x.2), by decide +kernel⟩

theorem csem_split : (Finset.univ : Finset (Fin 38)).map ⟨csem, csem_injective⟩
    = insert (.reg 0) (insert (.reg 1) ((Finset.univ.map sendE) ∪ (Finset.univ.map recvE))) := by decide +kernel

/-- Something of each cell of a device is something of the barrier's, of the exit's and of each transfer's two. -/
theorem over_cells (Φ : SemLoc sig → sProp 𝕄) :
    (bigSep Finset.univ fun k : Fin 38 => Φ (csem k))
      = iprop(Φ (.reg 0) ∗ Φ (.reg 1) ∗ (bigSep Finset.univ fun s : Fin 3 => bigSep Finset.univ fun l : Fin 6 => Φ (.dma (sendQ s l)))
          ∗ bigSep Finset.univ fun s : Fin 3 => bigSep Finset.univ fun l : Fin 6 => Φ (.dma (recvQ s l))) := by
  refine (bigSep_map (⟨csem, csem_injective⟩ : Fin 38 ↪ SemLoc sig) (Φ := Φ) (s := Finset.univ)).symm.trans ?_
  rw [csem_split, bigSep_insert (by decide +kernel), bigSep_insert (by decide +kernel),
    bigSep_union (by decide +kernel), bigSep_map, bigSep_map, bigSep_univ_prod, bigSep_univ_prod]
  rfl

/-- The scoped semaphores the body uses itself: the exit's and every transfer's, the local copies' included. -/
def osem (k : Fin 39) : SemLoc sig := if k.val = 0 then .reg 1 else .dma ⟨k.val + 1, by have := k.isLt; show _ < 40; omega⟩

theorem osem_injective : Function.Injective osem := by decide +kernel
theorem ownSemFacts : Pipeline.OwnSemFacts cfg0.spec osem := by decide +kernel

theorem osem_split : insert (SemLoc.reg 0) ((Finset.univ : Finset (Fin 39)).map ⟨osem, osem_injective⟩)
    = insert (.dma 2) (insert (.dma 3) ((Finset.univ : Finset (Fin 38)).map ⟨csem, csem_injective⟩)) := by decide +kernel

theorem ownSems0_osem (c : Dev nD) : (Pipeline.ownSems0 (Ix := Unit) (Name := ℕ) (U := UU) (Lvl := ℕ) (Val := Elt F) (τ := τ) osem c : sProp 𝕄)
    = bigSep ((Finset.univ : Finset (Fin 39)).map ⟨osem, osem_injective⟩) fun sm => semVal ((c : Thread nD τ), sm) 0 := by
  rw [bigSep_map]; rfl
theorem unscopedSems0_bar (c : Dev nD) : (unscopedSems0 c : sProp 𝕄) = semVal (barCell c) 0 := by
  unfold unscopedSems0; rw [bigSep_eq_bigSepL_of_eq [SemLoc.reg 0] (by decide) (by decide)]; rfl

/-- All of a device's semaphores are the local copies' two and its cells'. -/
theorem all_sems (c : Dev nD) :
    iprop(unscopedSems0 c ∗ Pipeline.ownSems0 (Ix := Unit) (Name := ℕ) (U := UU) (Lvl := ℕ) (Val := Elt F) (τ := τ) osem c : sProp 𝕄)
      = iprop(semVal ((c : Thread nD τ), .dma 2) 0 ∗ semVal ((c : Thread nD τ), .dma 3) 0 ∗ bigSep Finset.univ fun k : Fin 38 => semVal ((c : Thread nD τ), csem k) 0) := by
  rw [ownSems0_osem, unscopedSems0_bar]
  refine (bigSep_insert (Φ := fun sm => (semVal ((c : Thread nD τ), sm) 0 : sProp 𝕄)) (i := SemLoc.reg 0) (by decide +kernel)).symm.trans ?_
  rw [osem_split, bigSep_insert (by decide +kernel), bigSep_insert (by decide +kernel), bigSep_map]
  rfl

/-- The counters of the run at rest are all of them. -/
theorem rested_all (c : Dev nD) : rested c ⊢ iprop(unscopedSems0 c ∗ Pipeline.ownSems0 (Ix := Unit) (Name := ℕ) (U := UU) (Lvl := ℕ) (Val := Elt F) (τ := τ) osem c : sProp 𝕄) := by
  rw [all_sems, over_cells (fun sm => semVal ((c : Thread nD τ), sm) 0), bigSep_three, bigSep_three]
  unfold rested sems
  iintro ⟨HB, HX, ⟨H2, H3⟩, ⟨S0, R0⟩, ⟨S1, R1⟩, S2, R2⟩
  isplitl [H2]; · iexact H2
  isplitl [H3]; · iexact H3
  isplitl [HB]; · iexact HB
  isplitl [HX]; · iexact HX
  isplitl [S0 S1 S2]
  · isplitl [S0]; · iexact S0
    isplitl [S1]; · iexact S1
    iexact S2
  isplitl [R0]; · iexact R0
  isplitl [R1]; · iexact R1
  iexact R2

/-! ## The tokens -/

/-- A duty token of a device's cells: that of payment `j` of a neighbour, or that of a transfer's source. -/
abbrev TokIx := Fin 24 ⊕ (Fin 3 × Fin 6)
def tokSem : TokIx → SemLoc sig × Fin 3
  | .inl j => (paySem j, payDuty j)
  | .inr x => (.dma (sendQ x.1 x.2), 0)
def tokOf (x : Dev nD × TokIx) : GSem nD τ sig × ℕ × Fin 3 := (((x.1 : Thread nD τ), (tokSem x.2).1), 0, (tokSem x.2).2)

theorem tokSem_injective : Function.Injective tokSem := by decide +kernel
theorem tokOf_injective : Function.Injective tokOf := by
  rintro ⟨c, j⟩ ⟨c', j'⟩ h
  have h1 : c = c' := congrArg (fun x : GSem nD τ sig × ℕ × Fin 3 => x.1.1.1) h
  have h2 : tokSem j = tokSem j' := Prod.ext (congrArg (fun x : GSem nD τ sig × ℕ × Fin 3 => x.1.2) h) (congrArg (fun x : GSem nD τ sig × ℕ × Fin 3 => x.2.2) h)
  rw [h1, tokSem_injective h2]
def allToks : Finset (GSem nD τ sig × ℕ × Fin 3) := Finset.univ.map ⟨tokOf, tokOf_injective⟩

def cellAt (x : Dev nD × Fin 38) : GSem nD τ sig := ((x.1 : Thread nD τ), csem x.2)
theorem cellAt_injective : Function.Injective cellAt := by
  rintro ⟨c, j⟩ ⟨c', j'⟩ h
  have h1 : c = c' := congrArg (fun x : GSem nD τ sig => x.1.1) h
  have h2 : csem j = csem j' := congrArg (fun x : GSem nD τ sig => x.2) h
  rw [h1, csem_injective h2]
def allCells : Finset (GSem nD τ sig) := Finset.univ.map ⟨cellAt, cellAt_injective⟩

/-- The token of payment `j`, handed to the neighbour that makes it. -/
def dealEq : Dev nD × Fin 24 ≃ Dev nD × Fin 24 where
  toFun x := (nbr (payAx x.2) x.1, x.2)
  invFun x := (nbr (payAx x.2) x.1, x.2)
  left_inv x := Prod.ext (nbr_nbr _ _) rfl
  right_inv x := Prod.ext (nbr_nbr _ _) rfl

theorem deal (Φ : Dev nD → Fin 24 → sProp 𝕄) :
    (bigSep Finset.univ fun c : Dev nD => bigSep Finset.univ fun j : Fin 24 => Φ c j)
      = bigSep Finset.univ fun c : Dev nD => bigSep Finset.univ fun j : Fin 24 => Φ (nbr (payAx j) c) j := by
  rw [← bigSep_univ_prod (fun x : Dev nD × Fin 24 => Φ x.1 x.2), bigSep_univ_equiv dealEq,
    ← bigSep_univ_prod (fun x : Dev nD × Fin 24 => Φ (nbr (payAx x.2) x.1) x.2)]
  rfl

/-- The payment that is a transfer's. -/
def payE : Fin 3 × Fin 6 ↪ Fin 24 := ⟨fun x => ⟨3 + 6 * x.1.val + x.2.val, by omega⟩, by decide⟩

theorem pay_split : (Finset.univ : Finset (Fin 24)) = insert 0 (insert 1 (insert 2 (insert 21 (insert 22 (insert 23 (Finset.univ.map payE)))))) := by decide +kernel

/-- The tokens of all of a device's payments, told by what they pay. -/
theorem pay_toks (c : Dev nD) :
    (bigSep Finset.univ fun j : Fin 24 => dutyTok ER (payCell c j) 0 (payDuty j) : sProp 𝕄)
      = iprop(barTok 0 c ∗ barTok 1 c ∗ barTok 2 c ∗ exitTok 0 c ∗ exitTok 1 c ∗ exitTok 2 c
          ∗ bigSep Finset.univ fun s : Fin 3 => bigSep Finset.univ fun l : Fin 6 => dutyTok ER (recvCell s l (nbr (ax s (l.val / 2)) c)) 0 0) := by
  rw [pay_split, bigSep_insert (by decide +kernel), bigSep_insert (by decide +kernel), bigSep_insert (by decide +kernel), bigSep_insert (by decide +kernel),
    bigSep_insert (by decide +kernel), bigSep_insert (by decide +kernel), bigSep_map, bigSep_univ_prod]
  have e (s : Fin 3) (l : Fin 6) : paySem (payE (s, l)) = .dma (recvQ s l) ∧ payAx (payE (s, l)) = ax s (l.val / 2) ∧ payDuty (payE (s, l)) = 0 := by
    revert s l; decide +kernel
  rw [bigSep_congr fun s _ => bigSep_congr fun l _ => show (dutyTok ER (payCell c (payE (s, l))) 0 (payDuty (payE (s, l))) : sProp 𝕄)
      = dutyTok ER (recvCell s l (nbr (ax s (l.val / 2)) c)) 0 0 by unfold payCell; rw [(e s l).1, (e s l).2.1, (e s l).2.2]]
  rfl

/-- The tokens of a device's own cells, and those it is dealt. -/
def toks (c : Dev nD) : sProp 𝕄 := bigSep Finset.univ fun t : TokIx => dutyTok ER (tokOf (c, t)).1 (tokOf (c, t)).2.1 (tokOf (c, t)).2.2
def dealt (c : Dev nD) : sProp 𝕄 :=
  iprop((barTok 0 c ∗ barTok 1 c ∗ barTok 2 c) ∗ (exitTok 0 c ∗ exitTok 1 c ∗ exitTok 2 c) ∗ (kitToks 0 c ∗ kitToks 1 c ∗ kitToks 2 c))

theorem dealt_intro (c : Dev nD) :
    iprop((bigSep Finset.univ fun j : Fin 24 => dutyTok ER (payCell c j) 0 (payDuty j))
      ∗ bigSep Finset.univ fun s : Fin 3 => bigSep Finset.univ fun l : Fin 6 => dutyTok ER (sendCell s l c) 0 0 : sProp 𝕄) ⊢ dealt c := by
  rw [pay_toks]
  unfold dealt
  rw [← bigSep_three (fun s => kitToks s c)]
  unfold kitToks
  rw [bigSep_congr fun s _ => bigSep_sep' _ _ _, bigSep_sep']
  iintro ⟨⟨B0, B1, B2, E0, E1, E2, R⟩, S⟩
  isplitl [B0 B1 B2]
  · isplitl [B0]; · iexact B0
    isplitl [B1]; · iexact B1
    iexact B2
  isplitl [E0 E1 E2]
  · isplitl [E0]; · iexact E0
    isplitl [E1]; · iexact E1
    iexact E2
  isplitl [S]; · iexact S
  iexact R

theorem toks_dealt : (bigSep Finset.univ fun c : Dev nD => (toks c : sProp 𝕄)) ⊢ bigSep Finset.univ fun c : Dev nD => dealt c := by
  have e (c : Dev nD) : (toks c : sProp 𝕄) = iprop((bigSep Finset.univ fun j : Fin 24 => dutyTok ER ((c : Thread nD τ), paySem j) 0 (payDuty j))
      ∗ bigSep Finset.univ fun s : Fin 3 => bigSep Finset.univ fun l : Fin 6 => dutyTok ER (sendCell s l c) 0 0) := by
    unfold toks
    rw [bigSep_univ_sum, bigSep_univ_prod]
    rfl
  rw [bigSep_congr fun c _ => e c, bigSep_sep', deal (fun c j => dutyTok ER ((c : Thread nD τ), paySem j) 0 (payDuty j)), ← bigSep_sep']
  exact bigSep_mono fun c _ => dealt_intro c

/-! ## The launch credit -/

/-- What a device owes, payment by payment. -/
theorem rem_sum (d : Dev nD) (k : ℕ) (hk : k ≤ 24) (g : GSem nD τ sig) :
    rem d k g () = ∑ j : Fin 24, if 23 < j.val + k then (tallyAt (payCell d j) () (payAmt j) : CellTallies nD τ sig Unit) g () else 0 := by
  induction k with
  | zero => exact (Finset.sum_eq_zero fun j _ => if_neg (by have := j.isLt; omega)).symm
  | succ k ih =>
    have h24 : k < 24 := by omega
    rw [rem, Pi.add_apply, Finsupp.add_apply, ih (by omega), dif_pos h24,
      ← (Finset.sum_ite_eq' Finset.univ (⟨23 - k, by omega⟩ : Fin 24) fun j => (tallyAt (payCell d j) () (payAmt j) : CellTallies nD τ sig Unit) g ()).trans (if_pos (Finset.mem_univ _)),
      ← Finset.sum_add_distrib]
    refine Finset.sum_congr rfl fun j _ => ?_
    by_cases hj : j = ⟨23 - k, by omega⟩
    · subst hj
      rw [if_neg (by simp only; omega), if_pos rfl, if_pos (by simp only; omega), Nat.zero_add]
    · have hv : j.val ≠ 23 - k := fun h => hj (Fin.ext h)
      rw [if_neg hj, Nat.add_zero]
      by_cases h : 23 < j.val + k
      · rw [if_pos h, if_pos (by omega)]
      · rw [if_neg h, if_neg (by omega)]

/-- What all devices together owe a cell is what its semaphore is paid. -/
theorem launch_at (c : Dev nD) (sm : SemLoc sig) (n : ℕ) (hn : (∑ j : Fin 24, if paySem j = sm then payAmt j else 0) = n) :
    tallyOn ((c : Thread nD τ), sm) (launchCredit (Pipeline.owing fun d => rem d 24) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => rem_sum d 24 le_rfl _, Finset.sum_comm, ← hn]
  refine Finset.sum_congr rfl fun j _ => ?_
  rw [Finset.sum_congr rfl fun d _ => if_pos (show 23 < j.val + 24 by omega)]
  rw [Fintype.sum_eq_single (nbr (payAx j) c) fun d hd => ?_]
  · rw [tallyAt_apply]
    unfold payCell
    rw [nbr_nbr]
    by_cases h : paySem j = sm
    · rw [if_pos ⟨by rw [h], rfl⟩, if_pos h]
    · rw [if_neg fun hh => h (congrArg (fun g : GSem nD τ sig => g.2) hh.1).symm, if_neg h]
  · rw [tallyAt_apply]
    refine if_neg fun hh => hd ?_
    have : c = nbr (payAx j) d := congrArg (fun g : GSem nD τ sig => g.1.1) hh.1
    rw [this, nbr_nbr]

theorem paid_bar : (∑ j : Fin 24, if paySem j = .reg 0 then payAmt j else 0) = 3 := by decide +kernel
theorem paid_exit : (∑ j : Fin 24, if paySem j = .reg 1 then payAmt j else 0) = 3 := by decide +kernel
theorem paid_recv (s : Fin 3) (l : Fin 6) : (∑ j : Fin 24, if paySem j = .dma (recvQ s l) then payAmt j else 0) = amt (laneOf (recvQ s l)).2.2 := by
  revert s l; decide +kernel

/-- The launch credit a device holds. -/
theorem creds (c : Dev nD) :
    (Pipeline.launchCred (fun d => rem d 24) c : sProp 𝕄) ⊢ iprop(cred (tallyAt (barCell c) () 3) ∗ cred (tallyAt (exitCell c) () 3)
      ∗ bigSep Finset.univ fun s : Fin 3 => bigSep Finset.univ fun l : Fin 6 => cred (tallyAt (recvCell s l c) () (amt (laneOf (recvQ s l)).2.2))) := by
  unfold Pipeline.launchCred
  refine (bigSep_subset (Finset.subset_univ (insert (SemLoc.reg 0) (insert (SemLoc.reg 1) (Finset.univ.map recvE))))).trans ?_
  have e : (bigSep Finset.univ fun s : Fin 3 => bigSep Finset.univ fun l : Fin 6 => (cred (tallyOn ((c : Thread nD τ), recvE (s, l)) (launchCredit (Pipeline.owing fun d => rem d 24) 0 ((c : Thread nD τ), recvE (s, l)))) : sProp 𝕄))
      = bigSep Finset.univ fun s : Fin 3 => bigSep Finset.univ fun l : Fin 6 => cred (tallyAt (recvCell s l c) () (amt (laneOf (recvQ s l)).2.2)) :=
    bigSep_congr fun s _ => bigSep_congr fun l _ => congrArg cred (launch_at c _ _ (paid_recv s l))
  rw [bigSep_insert (by decide +kernel), bigSep_insert (by decide +kernel), bigSep_map, bigSep_univ_prod, launch_at c _ 3 paid_bar, launch_at c _ 3 paid_exit, e]
  exact BI.Entails.refl _

end Cert.KernelIdealRun

end
-- ==== Proof.KernelIdeal.Launch.lean ====
/-
# From one device to the whole launch
-/
module

public import proofs.«01_k».proof.Proof.KernelIdeal.Deal
public import proofs.«01_k».proof.Proof.Gen.KernelIdeal.Points
public import Idealize.ShloMosaic.Lib.Pipeline.CollectiveSegs

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The contents of the windows -/

variable (ρ : Dev nD → PrngReg)

/-- The block of the query array that is staged is all of it. -/
theorem staged (c : Dev nD) (t : Fin cfg0.N) : ((cfg0.win 0).blk t).view.read (Elt F) (m ((c : Thread nD τ).loc main_arg0)) = qAt m c := by
  obtain rfl := fin_N0 t
  funext i
  show m ((c : Thread nD τ).loc main_arg0) _ = m ((c : Thread nD τ).loc main_arg0) i
  refine congrArg (m ((c : Thread nD τ).loc main_arg0)) (funext fun a => Fin.ext ?_)
  show 0 * S4x32x8x128.size a + 1 * (i a).val = _
  rw [Nat.zero_mul, Nat.zero_add, Nat.one_mul]

def dats (_ : Fin 1) (c : Dev nD) : Pipeline.Dat τ (Elt F) Unit ℕ UU ℕ cfg0 c where
  A w := m ((cfg0.win w).arr.view.loc (c : Thread nD τ))
  after w _ := match w with
    | ⟨0, _⟩ => qAt m c
    | ⟨1, _⟩ => result m c
  Φ t := match t with
    | ⟨0, _⟩ => iprop((records m ∗ levAts L lv ∗ rights c ∗ argP m c ∗ copySems c) ∗ scratchP c)
    | ⟨_ + 1, _⟩ => iprop(rested c ∗ argP m c ∗ scratchP c)
  q _ := fullShare
  owed t := match t with
    | ⟨0, _⟩ => rem c 24
    | ⟨_ + 1, _⟩ => 0

/-- A whole buffer owned is the buffer at those contents. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_q (c : Dev nD) (d) : (dats m 0 c).before (0 : Fin 2) t0_0 d = qAt m c := by
  unfold Pipeline.Dat.before
  rw [if_pos (fetch0_0 t0_0)]
  exact staged m c t0_0

/-! ## The body's obligation -/

/-- A window's staging buffer on device `c`, at the contents `X`. -/
def stgP (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(((records m ∗ levAts L lv ∗ rights c ∗ argP m c ∗ copySems c) ∗ scratchP c) ∗ (dats m 0 c).owesAt () t0_0.castSucc
    ∗ (∃ d, stgP c cc0_stg0_0 ((dats m 0 c).before (0 : Fin 2) t0_0 d))
    ∗ (∃ d, stgP c cc0_stg1_0 ((dats m 0 c).before (1 : Fin 2) t0_0 d)))
def bodyPost (c : Dev nD) : sProp 𝕄 :=
  iprop((rested c ∗ argP m c ∗ scratchP c) ∗ (dats m 0 c).owesAt () t0_0.succ ∗ stgP c cc0_stg0_0 (qAt m c) ∗ stgP c cc0_stg1_0 (result m c))

theorem bodyPre_elim (c : Dev nD) : bodyPre m c ⊢ iprop(records m ∗ levAts L lv ∗ owesE c (rem c 24) ∗ rights c ∗ argP m c ∗ copySems c ∗ scratchP c ∗ qP m c ∗ (∃ g, outP c g)) := by
  unfold bodyPre stgP Pipeline.Dat.owesAt Pipeline.owesWithin owesE
  iintro ⟨⟨⟨HR, HL, HT, HA, HC⟩, HS⟩, ⟨%W, -, HO⟩, ⟨%d, %f, %hf, HQ⟩, ⟨%e, %g, %hg, HG⟩⟩
  isplitl [HR]; · iexact HR
  isplitl [HL]; · iexact HL
  isplitl [HO]; · iexists W; iexact HO
  isplitl [HT]; · iexact HT
  isplitl [HA]; · iexact HA
  isplitl [HC]; · iexact HC
  isplitl [HS]; · iexact HS
  isplitl [HQ]
  · rw [before_q] at hf; subst hf; iexact HQ
  iexists g; iexact HG

theorem bodyPost_intro (c : Dev nD) : iprop(owesE c (rem c 0) ∗ rested c ∗ argP m c ∗ scratchP c ∗ qP m c ∗ outP c (result m c)) ⊢ bodyPost m c := by
  unfold bodyPost stgP Pipeline.Dat.owesAt Pipeline.owesWithin owesE
  rw [show (dats m 0 c).owed t0_0.succ = rem c 0 from rfl]
  iintro ⟨⟨%W, HO⟩, HR, HA, HS, HQ, HG⟩
  isplitl [HR HA HS]
  · isplitl [HR]; · iexact HR
    isplitl [HA]; · iexact HA
    iexact HS
  isplitl [HO]
  · iexists W
    isplitr; · ipureintro; exact fun _ _ => Or.inl trivial
    iexact HO
  isplitl [HQ]
  · iexists qAt m c; isplitr; · ipureintro; rfl
    iexact HQ
  iexists result m c; isplitr; · ipureintro; rfl
  iexact HG

set_option maxRecDepth 40000 in
theorem body_obligation (c : Dev nD) : Pipeline.BodyObligation (dats (F := F) m 0 c) (defs₀ (F := F)) 𝒱₀ () Set.univ := fun t => by
  rw [fin_N0 t]
  rw [bigSep_W0, bigSep_W0]
  simp only [owns_buffer]
  show bodyPre m c ⊢ run c (atBuffers (cc0_body (F := F))) (fun _ => bodyPost m c)
  iintro H
  ihave H' := (bodyPre_elim m c) $$ H
  iapply (body m c fun _ => bodyPost m c) $$ [H']
  · iexact H'
  iintro HP
  iapply (bodyPost_intro m c)
  iexact HP

/-! ## Dealing at the launch -/

/-- What the initial element gives a device. -/
def G (c : Dev nD) : sProp 𝕄 :=
  iprop((bigSep Finset.univ fun k : Fin 38 => roundState ER (sched m) (cellAt (c, k)) 0)
    ∗ (bigSep Finset.univ fun k : Fin 38 => reached ER (cellAt (c, k)) 0)
    ∗ (bigSep Finset.univ fun k : Fin 38 => atPos ER (cellAt (c, k)) 0 ∅ 0) ∗ toks c)

/-- What the devices have made of it together. -/
def G' (c : Dev nD) : sProp 𝕄 :=
  iprop(records m ∗ copySems c ∗ (bigSep Finset.univ fun k : Fin 38 => atPos ER ((c : Thread nD τ), csem k) 0 ∅ 0) ∗ dealt c)

theorem over_allCells (Φ : GSem nD τ sig → sProp 𝕄) :
    bigSep allCells Φ = bigSep Finset.univ fun c : Dev nD => bigSep Finset.univ fun k : Fin 38 => Φ (cellAt (c, k)) := by
  unfold allCells; rw [bigSep_map, bigSep_univ_prod]; rfl
theorem over_allToks : bigSep allToks (fun x => (dutyTok ER x.1 x.2.1 x.2.2 : sProp 𝕄)) = bigSep Finset.univ fun c : Dev nD => toks c := by
  unfold allToks; rw [bigSep_map, bigSep_univ_prod]; rfl

theorem fund : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (BIBase.Entails.of_eq (over_allCells fun g => roundState ER (sched m) g 0)) $$ Hst
  ihave Hat' := (BIBase.Entails.of_eq (over_allCells fun g => atPos ER g 0 ∅ 0)) $$ Hat
  ihave Hr' := (BIBase.Entails.of_eq (over_allCells fun g => reached ER g 0)) $$ Hr
  ihave Htok' := (BIBase.Entails.of_eq over_allToks) $$ Htok
  unfold G; simp only [bigSep_sep']
  isplitl [Hst']; · iexact Hst'
  isplitl [Hr']; · iexact Hr'
  isplitl [Hat']; · iexact Hat'
  iexact Htok'

/-- A cell's counter at zero and its state make its invariant. -/
theorem cell_alloc (c : Dev nD) (k : Fin 38) :
    iprop(semVal ((c : Thread nD τ), csem k) 0 ∗ roundState ER (sched m) (cellAt (c, k)) 0 : sProp 𝕄)
      ⊢ |={Set.univ}=> iprop(∃ κ : ℕ, cellInv ER (sched m) κ (cellAt (c, k))) :=
  (Rounds.body_intro ER (sched m) (cellAt (c, k))).trans inv_alloc

theorem cells_alloc (c : Dev nD) :
    iprop((bigSep Finset.univ fun k : Fin 38 => semVal ((c : Thread nD τ), csem k) 0) ∗ bigSep Finset.univ fun k : Fin 38 => roundState ER (sched m) (cellAt (c, k)) 0 : sProp 𝕄)
      ⊢ |={Set.univ}=> bigSep Finset.univ fun k : Fin 38 => iprop(∃ κ : ℕ, cellInv ER (sched m) κ (cellAt (c, k))) := by
  rw [← bigSep_sep']
  exact (bigSep_mono fun k _ => cell_alloc m c k).trans (bigSep_fupd _ _)

theorem known_intro (c : Dev nD) (k : Fin 38) :
    iprop((∃ κ : ℕ, cellInv ER (sched m) κ (cellAt (c, k))) ∗ reached ER (cellAt (c, k)) 0 : sProp 𝕄) ⊢ known m c (csem k) := by
  unfold known
  iintro ⟨⟨%κ, HI⟩, HR⟩
  iexists κ
  isplitl [HI]; · iexact HI
  iexact HR

theorem knowns_intro (c : Dev nD) :
    iprop((bigSep Finset.univ fun k : Fin 38 => iprop(∃ κ : ℕ, cellInv ER (sched m) κ (cellAt (c, k)))) ∗ bigSep Finset.univ fun k : Fin 38 => reached ER (cellAt (c, k)) 0 : sProp 𝕄)
      ⊢ bigSep Finset.univ fun k : Fin 38 => known m c (csem k) := by
  rw [← bigSep_sep']
  exact bigSep_mono fun k _ => known_intro m c k

/-- What a device's own share of it is. -/
def ownShare (c : Dev nD) : sProp 𝕄 :=
  iprop((bigSep Finset.univ fun k : Fin 38 => known m c (csem k))
    ∗ (copySems c ∗ bigSep Finset.univ fun k : Fin 38 => atPos ER ((c : Thread nD τ), csem k) 0 ∅ 0) ∗ toks c)

theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> ownShare m c := by
  unfold G ownShare
  iintro ⟨Hos, Hus, Hst, Hr, Hat, Htok⟩
  ihave Hv := (BIBase.Entails.of_eq (all_sems (F := F) c)) $$ [Hos Hus]
  · isplitl [Hus] <;> iassumption
  icases Hv with ⟨H2, H3, Hv⟩
  imod (cells_alloc m c) $$ [Hv Hst] with Hinv
  · isplitl [Hv] <;> iassumption
  imodintro
  isplitl [Hinv Hr]
  · iapply (knowns_intro m c) $$ [Hinv Hr]
    isplitl [Hinv]; · iexact Hinv
    iexact Hr
  isplitr [Htok]
  · isplitl [H2 H3]
    · isplitl [H2]; · iexact H2
      iexact H3
    iexact Hat
  iexact Htok

/-- What all may know goes to each. -/
theorem spread {I : Type} [DecidableEq I] {S : Finset I} {R : sProp 𝕄} [BI.Persistent R] (Φ : I → sProp 𝕄) :
    iprop(R ∗ bigSep S Φ) ⊢ bigSep S fun i => iprop(R ∗ Φ i) :=
  (sep_mono_left (BI.bigSep_of_persistent S R)).trans (BIBase.Entails.of_eq (bigSep_sep' _ _ _).symm)

theorem whole_share (c : Dev nD) :
    iprop(records m ∗ (copySems c ∗ bigSep Finset.univ fun k : Fin 38 => atPos ER ((c : Thread nD τ), csem k) 0 ∅ 0) ∗ dealt c) ⊢ G' m c := by
  unfold G'
  iintro ⟨HR, ⟨HC, HA⟩, HD⟩
  isplitl [HR]; · iexact HR
  isplitl [HC]; · iexact HC
  isplitl [HA]; · iexact HA
  iexact HD

theorem regroup : (bigSep Finset.univ fun c : Dev nD => (ownShare m c : sProp 𝕄)) ⊢ bigSep Finset.univ (G' m) := by
  have e : (bigSep Finset.univ fun c : Dev nD => bigSep Finset.univ fun k : Fin 38 => known m c (csem k)) = records m := by
    unfold records; rw [bigSep_univ_prod]
  have e' : (bigSep Finset.univ fun c : Dev nD => iprop(records m ∗ (copySems c ∗ bigSep Finset.univ fun k : Fin 38 => atPos ER ((c : Thread nD τ), csem k) 0 ∅ 0) ∗ dealt c))
      ⊢ bigSep Finset.univ (G' m) := bigSep_mono fun c _ => whole_share m c
  unfold ownShare
  rw [bigSep_sep', bigSep_sep', e]
  iintro ⟨HR, HA, HT⟩
  ihave HD := toks_dealt $$ HT
  iapply e'
  iapply (spread (R := records m) fun c : Dev nD => iprop((copySems c ∗ bigSep Finset.univ fun k : Fin 38 => atPos ER ((c : Thread nD τ), csem k) 0 ∅ 0) ∗ dealt c))
  isplitl [HR]; · iexact HR
  iapply (BIBase.Entails.of_eq (bigSep_sep' Finset.univ (fun c : Dev nD => iprop(copySems c ∗ bigSep Finset.univ fun k : Fin 38 => atPos ER ((c : Thread nD τ), csem k) 0 ∅ 0)) dealt).symm)
  isplitl [HA]; · iexact HA
  iexact HD

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (regroup m))

/-! ## A device's start and end -/

theorem rights_intro (c : Dev nD) :
    iprop((bigSep Finset.univ fun k : Fin 38 => atPos ER ((c : Thread nD τ), csem k) 0 ∅ 0) ∗ dealt c
      ∗ cred (tallyAt (barCell c) () 3) ∗ cred (tallyAt (exitCell c) () 3)
      ∗ bigSep Finset.univ fun s : Fin 3 => bigSep Finset.univ fun l : Fin 6 => cred (tallyAt (recvCell s l c) () (amt (laneOf (recvQ s l)).2.2)) : sProp 𝕄) ⊢ rights c := by
  rw [over_cells (fun sm => atPos ER ((c : Thread nD τ), sm) 0 ∅ 0)]
  unfold dealt rights
  have e : iprop((bigSep Finset.univ fun s : Fin 3 => bigSep Finset.univ fun l : Fin 6 => atPos ER ((c : Thread nD τ), .dma (sendQ s l)) 0 ∅ 0)
      ∗ (bigSep Finset.univ fun s : Fin 3 => bigSep Finset.univ fun l : Fin 6 => cred (tallyAt (recvCell s l c) () (amt (laneOf (recvQ s l)).2.2)))
      ∗ bigSep Finset.univ fun s : Fin 3 => bigSep Finset.univ fun l : Fin 6 => atPos ER ((c : Thread nD τ), .dma (recvQ s l)) 0 ∅ 0 : sProp 𝕄)
      = iprop(held 0 c ∗ held 1 c ∗ held 2 c) := by
    rw [← bigSep_three (fun s => held s c)]
    unfold held ahead
    rw [bigSep_sep', bigSep_congr fun s _ => bigSep_sep' _ _ _, bigSep_sep']
  rw [← e]
  iintro ⟨⟨AB, AX, AS, AR⟩, ⟨TB, TX, TK⟩, CB, CX, CR⟩
  isplitl [TB]; · iexact TB
  isplitl [TX]; · iexact TX
  isplitl [TK]; · iexact TK
  isplitl [AS AR CR]
  · isplitl [AS]; · iexact AS
    isplitl [CR]; · iexact CR
    iexact AR
  isplitl [AB CB]
  · isplitl [CB]; · iexact CB
    iexact AB
  isplitl [CX]; · iexact CX
  iexact AX

theorem start_intro (c : Dev nD) :
    iprop(Pipeline.unscopedRestP Pipeline.Prefetch.none cfg0.spec c (fun b => m ((c : Thread nD τ).loc b)) ∗ levAts L lv
        ∗ Pipeline.launchCred (fun d => rem d 24) c ∗ prngReg c (ρ c) ∗ G' m c)
      ⊢ |={Set.univ}=> iprop((records m ∗ levAts L lv ∗ rights c ∗ argP m c ∗ copySems c) ∗ emp) := by
  rw [Pipeline.unscopedRestP_none, unscopedRest0_eq]
  unfold G'
  iintro ⟨HA, Hlev, Hcr, -, HR, HC, Hat, HD⟩
  ihave Hc := (creds (F := F) c) $$ Hcr
  icases Hc with ⟨CB, CX, CR⟩
  imodintro
  isplitl
  · isplitl [HR]; · iexact HR
    isplitl [Hlev]; · iexact Hlev
    isplitl [CB CX CR Hat HD]
    · iapply (rights_intro (F := F) c) $$ [CB CX CR Hat HD]
      isplitl [Hat]; · iexact Hat
      isplitl [HD]; · iexact HD
      isplitl [CB]; · iexact CB
      isplitl [CX]; · iexact CX
      iexact CR
    isplitl [HA]; · iexact HA
    iexact HC
  · iempintro

theorem phi_intro (c : Dev nD) :
    iprop((records m ∗ levAts L lv ∗ rights c ∗ argP m c ∗ copySems c)
        ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop((records m ∗ levAts L lv ∗ rights c ∗ argP m c ∗ copySems c) ∗ scratchP c) from rfl, scopedRest0_eq]
  iintro ⟨Hs, -, Hr⟩
  isplitl [Hs]; · iexact Hs
  unfold scratchP
  iexact Hr

theorem phi_exit (c : Dev nD) :
    (dats m 0 c).Φ (Fin.last cfg0.N) ⊢ iprop((unscopedSems0 c ∗ argP m c) ∗ Pipeline.ownSems0 osem c ∗ Pipeline.scopedRest cfg0.spec c) := by
  rw [show (dats m 0 c).Φ (Fin.last cfg0.N) = iprop(rested c ∗ argP m c ∗ scratchP c) from rfl, scopedRest0_eq]
  iintro ⟨HR, HA, HS⟩
  ihave H := (rested_all (F := F) c) $$ HR
  icases H with ⟨HU, HO⟩
  isplitl [HU HA]
  · isplitl [HU]; · iexact HU
    iexact HA
  isplitl [HO]; · iexact HO
  unfold scratchP
  iexact HS

theorem share_full (c : Dev nD) (w : Fin cfg0.W) : (dats m 0 c).share w = fullShare := by unfold Pipeline.Dat.share; split <;> rfl

/-- The staging copies may be waited for: nothing is owed below them. -/
theorem waits (c : Dev nD) : (levAts L lv : sProp 𝕄) ⊢ Pipeline.cellsWaits cfgs (dats m) () 0 c :=
  Pipeline.cellsWaits_intro cfgs (dats m) () 0 c fun w s t => by
    have hs : levOf (SemLoc.dma (((cfgs 0).win w).sem s)) = 0 := by revert w s; decide +kernel
    rcases t with ⟨_ | _, ht⟩
    · exact mayWait c _ 24 fun j _ => by rw [hs]; revert j; decide +kernel
    · exact mayWait c _ 0 fun j _ => by rw [hs]; revert j; decide +kernel

/-! ## The run -/

def u₀ : UU := (initOf (Pipeline.cells cfgs cellOf_inj) (Pipeline.launchToks cfgs cellOf_inj), (initOf allCells allToks, 1))

theorem launch_split : (ownU u₀ : sProp 𝕄) ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (own_pair_emb _ _ _) $$ HX
  icases HX' with ⟨HX, -⟩
  imod (fund m) $$ HX with HG
  imodintro
  isplitl [HP] <;> iassumption

/-- What a device's memory and counters end at, beside the windows' arrays. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

theorem kept_read (c : Dev nD) (s' : Phys nD τ sig (Elt F)) :
    iprop((unscopedSems0 c ∗ argP m c) ∗ emp ∗ SI s' : sProp 𝕄) ⊢ |={Set.univ}=> iprop(⌜Kept m c s'.mem⌝ ∗ SI s') := by
  iintro ⟨⟨Hu, Hk, Hv⟩, -, HSI⟩
  ihave %hk := SI_pointsTo_agree $$ [HSI Hk]
  · isplitl [HSI]; · iexact HSI
    iexact Hk
  ihave %hv := SI_pointsTo_agree $$ [HSI Hv]
  · isplitl [HSI]; · iexact HSI
    iexact Hv
  imod (Pipeline.unscopedSems0_read (X := unscopedSems0 c) (c := c) fupd_intro s') $$ [Hu HSI] with ⟨%hs, HSI⟩
  · isplitl [Hu] <;> iassumption
  imodintro
  isplitr; · ipureintro; exact ⟨hs, funext fun i => hk i (Finset.mem_univ i), funext fun i => hv i (Finset.mem_univ i)⟩
  iexact HSI

def finalA (c : Dev nD) (w : Fin cfg0.W) : Buf (Elt F) ((cfg0.win w).arr.view.loc (c : Thread nD τ)) := (dats m 0 c).arrAt w cfg0.N

set_option maxRecDepth 8000 in
/-- Every device's arrays as the run leaves them, and its counters at zero. -/
theorem run_arrays : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ Kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := fun d => rem d 24) (howed₀ := fun _ => rfl) (howedN := fun _ => rfl)
    (L := L) (lv := lv) (hL := L_of_ne) (hwaits := waits m)
    (G := G m) (G' := G' m) (u₀ := u₀)
    (hu₀ := launch_split m) (hglob := glob m)
    (hA := fun _ _ => rfl) (hpf := fun _ k => k.elim0)
    (X := fun c => iprop(records m ∗ levAts L lv ∗ rights c ∗ argP m c ∗ copySems c)) (Y := fun c => iprop(unscopedSems0 c ∗ argP m c)) (Z := fun _ => iprop(emp))
    (hX := start_intro m ρ) (hin := phi_intro m) (hout := phi_exit m)
    (QY := fun c s => Kept m c s) (hY := kept_read m)
    (hQ := fun _ h hs => ⟨fun c => ⟨(h c).1, (h c).2.2⟩, sem_eq_zero hs fun c => (h c).2.2.1⟩)

/-- The query array is unchanged. -/
theorem final_q (c : Dev nD) : finalA m c (0 : Fin 2) = qAt m c := (dats (F := F) m 0 c).arrAt_in (0 : Fin 2) rfl _

theorem flushed_result (c : Dev nD) (t : Fin cfg0.N) : (dats m 0 c).flushed 1 t = ((cfg0.win 1).blk t).view.read (Elt F) (result m c) := by
  obtain rfl := fin_N0 t
  funext i
  show result m c _ = result m c _
  refine congrArg (result m c) (funext fun a => Fin.ext ?_)
  show _ = 0 * S4x32x8x128.size a + 1 * (i a).val
  rw [Nat.zero_mul, Nat.zero_add, Nat.one_mul]

theorem covered (i : S4x32x8x128.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  intro a
  have e : ∀ a, win0_1.index t0_0 a * win0_1.size a = 0 ∧ win0_1.xsize (grid0.coords t0_0) a = S4x32x8x128.size a := by decide +kernel
  have ha := (i a).isLt
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, ha⟩

/-- The result array is what the device computed. -/
theorem final_out (c : Dev nD) : finalA m c (1 : Fin 2) = result m c :=
  (dats m 0 c).arrAt_eq_of_cover 1 (result m c) (fun t _ => flushed_result m c t) covered

/-- From any memory with every counter at zero, every run ends with each device's result the one it computed, its arguments unchanged and every counter at zero. -/
theorem run_main : θ_run defs (onTc (τ := τ) (main (F := F))) ⟨m, fun _ => 0, ρ⟩
    (fun r => (∀ c : Dev nD, r.2.mem ((c : Thread nD τ).loc main_v1) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs (onTc (τ := τ) (main (F := F))) ⟨m, fun _ => 0, ρ⟩).mono (fun r h => ⟨fun c => ⟨((h.1 c).1 1).trans (final_out m c), ((h.1 c).1 0).trans (final_q m c), (h.1 c).2.2.1, (h.1 c).2.2.2⟩, h.2⟩) (run_arrays m ρ)

end Cert.KernelIdealRun

end
-- ==== Proof.Value.Softmax.lean ====
module

public import Idealize.ShloMosaic.PureOps.Ideal.Laws

@[expose] public section

noncomputable section

namespace Cert.Softmax

open Idealize.ShloMosaic

variable {ι : Type} [Fintype ι]

/-- A sum of reals, read in the extended reals, is the sum of the readings. -/
theorem sum_coe (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- A real factor that is not negative goes into a sum of extended reals. -/
theorem sum_mul_coe (f : ι → EReal) {a : ℝ} (ha : 0 ≤ a) : (∑ i, f i) * (a : EReal) = ∑ i, f i * (a : EReal) := by
  classical
  induction (Finset.univ : Finset ι) using Finset.induction_on with
  | empty => simp
  | insert i s hi ih =>
    rw [Finset.sum_insert hi, Finset.sum_insert hi, ← ih,
      EReal.right_distrib_of_nonneg_of_ne_top (by exact_mod_cast ha) (EReal.coe_ne_top a)]

/-- The largest of finitely many reals, one at least, is a real. -/
theorem exists_max [Nonempty ι] (x : ι → ℝ) : ∃ M : ℝ, Finset.univ.fold max (⊥ : EReal) (fun i => (x i : EReal)) = (M : EReal) := by
  have hb : Finset.univ.fold max (⊥ : EReal) (fun i => (x i : EReal)) ≠ ⊥ := by
    obtain ⟨i⟩ := ‹Nonempty ι›
    refine ne_of_gt ((Finset.lt_fold_max _).2 (.inr ⟨i, Finset.mem_univ i, EReal.bot_lt_coe _⟩))
  have ht : Finset.univ.fold max (⊥ : EReal) (fun i => (x i : EReal)) ≠ ⊤ :=
    ne_of_lt ((Finset.fold_max_lt _).2 ⟨bot_lt_top, fun i _ => EReal.coe_lt_top _⟩)
  exact ⟨_, (EReal.coe_toReal ht hb).symm⟩

/-- Division by a real that is not zero multiplies by its inverse. -/
theorem div_coe (x : EReal) {a : ℝ} (ha : a ≠ 0) : Ideal.div x a = x * ((a⁻¹ : ℝ) : EReal) := by
  unfold Ideal.div
  rw [if_neg (by exact_mod_cast ha), EReal.coe_inv]

theorem exp_coe (r : ℝ) : Ideal.exp (r : EReal) = (Real.exp r : EReal) := rfl

/-- A weighted average with the exponentials of finite scores as weights, taken in two ways: the weighted sum over
    the sum of the weights; and each value by its share of the weights, all of them lowered by a common shift. -/
theorem average_eq [Nonempty ι] (x : ι → ℝ) (v : ι → EReal) (M : ℝ) :
    Ideal.div (∑ i, Ideal.exp (x i) * v i) (∑ i, Ideal.exp (x i))
      = ∑ i, v i * Ideal.div (Ideal.exp ((x i : EReal) - M)) (∑ j, Ideal.exp ((x j : EReal) - M)) := by
  have hL : 0 < ∑ i, Real.exp (x i) := Finset.sum_pos (fun i _ => Real.exp_pos _) Finset.univ_nonempty
  have hN : ∑ i, Real.exp (x i - M) = (∑ i, Real.exp (x i)) * Real.exp (-M) := by
    rw [Finset.sum_mul]; exact Finset.sum_congr rfl fun i _ => by rw [← Real.exp_add, sub_eq_add_neg]
  have hN0 : ∑ i, Real.exp (x i - M) ≠ 0 := by rw [hN]; exact mul_ne_zero hL.ne' (Real.exp_pos _).ne'
  simp only [← EReal.coe_sub, exp_coe, sum_coe]
  rw [div_coe _ hL.ne', sum_mul_coe _ (inv_nonneg.2 hL.le)]
  refine Finset.sum_congr rfl fun i _ => ?_
  rw [div_coe _ hN0, hN, mul_comm ((Real.exp (x i) : ℝ) : EReal) (v i), mul_assoc, ← EReal.coe_mul, ← EReal.coe_mul]
  congr 2
  rw [sub_eq_add_neg, Real.exp_add, mul_inv, mul_mul_mul_comm, mul_inv_cancel₀ (Real.exp_pos (-M)).ne', mul_one]

/-- The words of the reference's and the precondition's literals. -/
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
/-- The scale of the scores is a real. -/
theorem exists_scale : ∃ r : ℝ, Ideal.ofBits .f32 0x3DB504F3#32 = (r : EReal) := by
  simp only [Ideal.ofBits, Ideal.ieee]
  rw [if_neg (by decide), if_neg (by decide)]
  exact ⟨_, rfl⟩

/-- An extended real below infinity in size is a real. -/
theorem exists_coe_of_abs_lt {x : EReal} (h : max x (-x) < ⊤) : ∃ r : ℝ, x = (r : EReal) := by
  have ht : x ≠ ⊤ := fun e => by subst e; simp at h
  have hb : x ≠ ⊥ := fun e => by subst e; simp at h
  exact ⟨x.toReal, (EReal.coe_toReal ht hb).symm⟩

/-- A scaled product of two finite rows is a real. -/
theorem exists_score (a b : ι → EReal) (ha : ∀ i, ∃ r : ℝ, a i = (r : EReal)) (hb : ∀ i, ∃ r : ℝ, b i = (r : EReal)) :
    ∃ r : ℝ, (∑ i, a i * b i) * Ideal.ofBits .f32 0x3DB504F3#32 = (r : EReal) := by
  choose a' ha' using ha
  choose b' hb' using hb
  obtain ⟨s, hs⟩ := exists_scale
  refine ⟨(∑ i, a' i * b' i) * s, ?_⟩
  rw [hs, EReal.coe_mul, ← sum_coe]
  simp only [ha', hb', EReal.coe_mul]

end Cert.Softmax

end
-- ==== Proof.Value.Heads.lean ====
module

public import proofs.«01_k».proof.Proof.KernelIdeal.Body
public import proofs.«01_k».proof.Proof.Value.Softmax
public import Idealize.ShloMosaic.Lib.Pointwise

@[expose] public section

noncomputable section

namespace Cert.KernelIdealRun

open Cert.KernelIdeal Cert.KernelIdeal.Gen
open Idealize.ShloMosaic Idealize.ShloMosaic.TcCoe Idealize.SL.Sem

/-! ## A head's rows, read at an index -/

section Reads
variable {F : FTy → Type} [FloatOps F]

theorem qHead_apply (q : FVec F S4x32x8x128 .f32) (h : Fin 8) (b : Fin 4) (r : Fin 32) (d : Fin 128) :
    qHead q h (ix4 b r 0 d) = q (ix4 b r h d) := by
  refine congrArg q (funext fun a => Fin.ext ?_)
  match a with
  | ⟨0, _⟩ => show 0 + 1 * b.val = b.val; omega
  | ⟨1, _⟩ => show 0 + 1 * r.val = r.val; omega
  | ⟨2, _⟩ => show h.val + 1 * 0 = h.val; omega
  | ⟨3, _⟩ => show 0 + 1 * d.val = d.val; omega

theorem kHead_apply (k : FVec F S4x1024x8x128 .f32) (h : Fin 8) (b : Fin 4) (n : Fin 1024) (d : Fin 128) :
    kHead k h (ix4 b n 0 d) = k (ix4 b n h d) := by
  refine congrArg k (funext fun a => Fin.ext ?_)
  match a with
  | ⟨0, _⟩ => show 0 + 1 * b.val = b.val; omega
  | ⟨1, _⟩ => show 0 + 1 * n.val = n.val; omega
  | ⟨2, _⟩ => show h.val + 1 * 0 = h.val; omega
  | ⟨3, _⟩ => show 0 + 1 * d.val = d.val; omega

theorem vHead_apply (v : FVec F S4x1024x8x128 .f32) (h : Fin 8) (b : Fin 4) (n : Fin 1024) (d : Fin 128) :
    vHead v h (ix4 b n 0 d) = v (ix4 b n h d) := by
  refine congrArg v (funext fun a => Fin.ext ?_)
  match a with
  | ⟨0, _⟩ => show 0 + 1 * b.val = b.val; omega
  | ⟨1, _⟩ => show 0 + 1 * n.val = n.val; omega
  | ⟨2, _⟩ => show h.val + 1 * 0 = h.val; omega
  | ⟨3, _⟩ => show 0 + 1 * d.val = d.val; omega

/-- The place in a device's shard of its key number `n`. -/
def keyAt (c : Dev nD) (n : Fin 1024) : Fin 4096 :=
  ⟨2048 * (c.val / 4) + 1024 * (c.val % 2) + n.val, by have : c.val < 8 := c.isLt; have := n.isLt; omega⟩

variable (m : (ℓ : Loc nD τ sig) → Buf (Elt F) ℓ) (c : Dev nD)

/-- A device's shard of the keys, and of the values. -/
def kArr : FVec F S4x4096x8x128 .f32 := m ((c : Thread nD τ).loc main_arg1)
def vArr : FVec F S4x4096x8x128 .f32 := m ((c : Thread nD τ).loc main_arg2)

theorem kAt_apply (b : Fin 4) (n : Fin 1024) (h : Fin 8) (d : Fin 128) :
    kAt m c (ix4 b n h d) = kArr m c (ix4 b (keyAt c n) h d) := by
  refine congrArg (kArr m c) (funext fun a => Fin.ext ?_)
  match a with
  | ⟨0, _⟩ => show k0_off1 c 0 + 1 * b.val = b.val; rw [k0_off1_eq]; show 0 + 1 * b.val = b.val; omega
  | ⟨1, _⟩ =>
    show k0_off1 c 1 + 1 * n.val = 2048 * (c.val / 4) + 1024 * (c.val % 2) + n.val
    rw [k0_off1_eq]; show 2048 * (c.val / 4) + 1024 * (c.val % 2) + 1 * n.val = _; omega
  | ⟨2, _⟩ => show k0_off1 c 2 + 1 * h.val = h.val; rw [k0_off1_eq]; show 0 + 1 * h.val = h.val; omega
  | ⟨3, _⟩ => show k0_off1 c 3 + 1 * d.val = d.val; rw [k0_off1_eq]; show 0 + 1 * d.val = d.val; omega

theorem vAt_apply (b : Fin 4) (n : Fin 1024) (h : Fin 8) (d : Fin 128) :
    vAt m c (ix4 b n h d) = vArr m c (ix4 b (keyAt c n) h d) := by
  refine congrArg (vArr m c) (funext fun a => Fin.ext ?_)
  match a with
  | ⟨0, _⟩ => show k0_off1 c 0 + 1 * b.val = b.val; rw [k0_off1_eq]; show 0 + 1 * b.val = b.val; omega
  | ⟨1, _⟩ =>
    show k0_off1 c 1 + 1 * n.val = 2048 * (c.val / 4) + 1024 * (c.val % 2) + n.val
    rw [k0_off1_eq]; show 2048 * (c.val / 4) + 1024 * (c.val % 2) + 1 * n.val = _; omega
  | ⟨2, _⟩ => show k0_off1 c 2 + 1 * h.val = h.val; rw [k0_off1_eq]; show 0 + 1 * h.val = h.val; omega
  | ⟨3, _⟩ => show k0_off1 c 3 + 1 * d.val = d.val; rw [k0_off1_eq]; show 0 + 1 * d.val = d.val; omega

end Reads

/-! ## The payloads at an index -/

theorem pay12_apply (q : FVec Ideal S4x32x1x128 .f32) (k : FVec Ideal S4x1024x1x128 .f32) (b : Fin 4) (r : Fin 32) (n : Fin 1024) :
    k0_pay12 (F := Ideal) q k (ix3 b r n) = Ideal.exp ((∑ d : Fin 128, q (ix4 b r 0 d) * k (ix4 b n 0 d)) * Ideal.ofBits .f32 0x3DB504F3#32) := by
  unfold k0_pay12
  simp only [pointwise, zero_add]

theorem pay13_apply (q : FVec Ideal S4x32x1x128 .f32) (k : FVec Ideal S4x1024x1x128 .f32) (b : Fin 4) (r : Fin 32) :
    k0_pay13 (F := Ideal) q k (ix3 0 b r) = ∑ n : Fin 1024, k0_pay12 (F := Ideal) q k (ix3 b r n) := by
  unfold k0_pay13
  simp only [pointwise, zero_add]

theorem pay14_apply (q : FVec Ideal S4x32x1x128 .f32) (k v : FVec Ideal S4x1024x1x128 .f32) (b : Fin 4) (r : Fin 32) (d : Fin 128) :
    k0_pay14 (F := Ideal) q k v (ix4 0 b r d) = ∑ n : Fin 1024, k0_pay12 (F := Ideal) q k (ix3 b r n) * v (ix4 b n 0 d) := by
  unfold k0_pay14
  simp only [pointwise, zero_add]

theorem pay42_apply (x : FVec Ideal S8x4x32x128 .f32) (y : FVec Ideal S8x4x32 .f32) (b : Fin 4) (r : Fin 32) (h : Fin 8) (d : Fin 128) :
    k0_pay42 (F := Ideal) x y (ix4 b r h d) = Ideal.div (x (ix4 h b r d)) (y (ix3 h b r)) := by
  unfold k0_pay42
  simp only [pointwise]
  rfl

/-! ## What a device holds before the exchange -/

variable (m : (ℓ : Loc nD τ sig) → Buf (Elt Ideal) ℓ) (c : Dev nD)

/-- The score of query row `r` against the device's key `n`, for batch `b` and head `h`. -/
def scoreAt (b : Fin 4) (h : Fin 8) (r : Fin 32) (n : Fin 1024) : EReal :=
  (∑ d : Fin 128, qAt m c (ix4 b r h d)
      * kArr m c (ix4 b (keyAt c n) h d)) * Ideal.ofBits .f32 0x3DB504F3#32

theorem den0_apply (b : Fin 4) (h : Fin 8) (r : Fin 32) :
    den0 m c (ix3 h b r) = ∑ n : Fin 1024, Ideal.exp (scoreAt m c b h r n) := by
  refine (show den0 m c (ix3 h b r) = k0_pay13 (F := Ideal) (qHead (qAt m c) h) (kHead (kAt m c) h) (ix3 0 b r) from
    congrArg (denHead m c h) (funext fun a => match a with | ⟨0, _⟩ => rfl | ⟨1, _⟩ => rfl | ⟨2, _⟩ => rfl)).trans ?_
  rw [pay13_apply]
  refine Finset.sum_congr rfl fun n _ => ?_
  rw [pay12_apply]
  simp only [qHead_apply, kHead_apply, kAt_apply]
  rfl

theorem num0_apply (b : Fin 4) (h : Fin 8) (r : Fin 32) (d : Fin 128) :
    num0 m c (ix4 h b r d) = ∑ n : Fin 1024, Ideal.exp (scoreAt m c b h r n)
      * vArr m c (ix4 b (keyAt c n) h d) := by
  refine (show num0 m c (ix4 h b r d) = k0_pay14 (F := Ideal) (qHead (qAt m c) h) (kHead (kAt m c) h) (vHead (vAt m c) h) (ix4 0 b r d) from
    congrArg (numHead m c h) (funext fun a => match a with | ⟨0, _⟩ => rfl | ⟨1, _⟩ => rfl | ⟨2, _⟩ => rfl | ⟨3, _⟩ => rfl)).trans ?_
  rw [pay14_apply]
  refine Finset.sum_congr rfl fun n _ => ?_
  rw [pay12_apply]
  simp only [qHead_apply, kHead_apply, vHead_apply, kAt_apply, vAt_apply]
  rfl

/-! ## The exchange adds up the eight devices -/

/-- Three stages over the three axes, in the order a part takes them, reach every device once. -/
theorem stages_sum (f : Dev nD → EReal) (p : Fin 3) :
    ((f c + f (nbr (ax 0 p.val) c)) + (f (nbr (ax 1 p.val) c) + f (nbr (ax 0 p.val) (nbr (ax 1 p.val) c))))
      + ((f (nbr (ax 2 p.val) c) + f (nbr (ax 0 p.val) (nbr (ax 2 p.val) c)))
        + (f (nbr (ax 1 p.val) (nbr (ax 2 p.val) c)) + f (nbr (ax 0 p.val) (nbr (ax 1 p.val) (nbr (ax 2 p.val) c)))))
      = ∑ c' : Dev nD, f c' := by
  have key : ∀ (p : Fin 3) (c : Dev nD), ([c, nbr (ax 0 p.val) c, nbr (ax 1 p.val) c, nbr (ax 0 p.val) (nbr (ax 1 p.val) c), nbr (ax 2 p.val) c,
      nbr (ax 0 p.val) (nbr (ax 2 p.val) c), nbr (ax 1 p.val) (nbr (ax 2 p.val) c),
      nbr (ax 0 p.val) (nbr (ax 1 p.val) (nbr (ax 2 p.val) c))] : List (Dev nD)).Perm (List.finRange 8) := by decide +kernel
  have h := ((key p c).map f).sum_eq
  rw [show ∑ c' : Dev nD, f c' = ((List.finRange 8).map f).sum from Fin.sum_univ_def f, ← h]
  simp only [List.map_cons, List.map_nil, List.sum_cons, List.sum_nil, add_zero, add_assoc]

theorem accN_apply (X : Dev nD → Num Ideal) (i : S8x4x32x128.Idx) : accN X 3 c i = ∑ c' : Dev nD, X c' i :=
  stages_sum c (fun c' => X c' i) ⟨(i 0).val / 3, by have : (i 0).val < 8 := (i 0).isLt; omega⟩

theorem accD_apply (X : Dev nD → Den Ideal) (i : S8x4x32.Idx) : accD X 3 c i = ∑ c' : Dev nD, X c' i :=
  stages_sum c (fun c' => X c' i) ⟨(i 0).val / 3, by have : (i 0).val < 8 := (i 0).isLt; omega⟩

/-- What every device ends with, at an index: the weighted sum over all the keys, over the sum of the weights. -/
theorem result_apply (b : Fin 4) (h : Fin 8) (r : Fin 32) (d : Fin 128) :
    result m c (ix4 b r h d)
      = Ideal.div (∑ c' : Dev nD, ∑ n : Fin 1024, Ideal.exp (scoreAt m c' b h r n)
          * vArr m c' (ix4 b (keyAt c' n) h d))
        (∑ c' : Dev nD, ∑ n : Fin 1024, Ideal.exp (scoreAt m c' b h r n)) := by
  unfold result
  rw [pay42_apply, accN_apply, accD_apply]
  simp only [num0_apply, den0_apply]

end Cert.KernelIdealRun

end
-- ==== Proof.Value.Ref.lean ====
module

public import proofs.«01_k».proof.Proof.Gen.ReferenceIdeal.Run
public import proofs.«01_k».proof.Proof.Value.Softmax
public import Idealize.ShloMosaic.Lib.Pointwise

@[expose] public section

noncomputable section

namespace Cert.ReferenceIdealRun

open Cert.ReferenceIdeal Cert.ReferenceIdeal.Gen Idealize.ShloMosaic Idealize.ShloMosaic.TcCoe Idealize.SL.Sem Idealize.ShloMosaic.StableHlo

/-- The scaled scores of the reference. -/
def score (q : FVec Ideal S4x32x8x128 .f32) (k : FVec Ideal S4x8192x8x128 .f32) : FVec Ideal S4x8x32x8192 .f32 :=
  mulf (Host.dotGeneral dot_S4x32x8x128_S4x8192x8x128_S4x8x32x8192_3_3_1_1_02_02 none q k)
    (broadcastInDim S4x8x32x8192 ![] bcast_S_S4x8x32x8192 (constant S_ .f32 0x3DB504F3#32))

theorem score_apply (q : FVec Ideal S4x32x8x128 .f32) (k : FVec Ideal S4x8192x8x128 .f32) (b : Fin 4) (h : Fin 8) (r : Fin 32) (n : Fin 8192) :
    score q k (ix4 b h r n) = (∑ d : Fin 128, q (ix4 b r h d) * k (ix4 b n h d)) * Ideal.ofBits .f32 0x3DB504F3#32 := by
  unfold score
  simp only [pointwise, zero_add]

/-- The largest score of each row. -/
def top (s : FVec Ideal S4x8x32x8192 .f32) : FVec Ideal S4x8x32 .f32 :=
  Host.reduce FloatOps.maximumf s (constant S_ .f32 0xFF800000#32) reducesTo_S4x8x32x8192_S4x8x32_d3 h_S_

theorem top_apply (s : FVec Ideal S4x8x32x8192 .f32) (b : Fin 4) (h : Fin 8) (r : Fin 32) :
    top s (ix3 b h r) = Finset.univ.fold max (⊥ : EReal) fun n : Fin 8192 => s (ix4 b h r n) := by
  unfold top
  simp only [pointwise]
  rw [Cert.Softmax.ofBits_bot]

/-- The shifted exponentials. -/
def weight (s : FVec Ideal S4x8x32x8192 .f32) : FVec Ideal S4x8x32x8192 .f32 :=
  Host.exp (subf s (broadcastInDim S4x8x32x8192 ![0, 1, 2, 3] bcast_S4x8x32x1_S4x8x32x8192_0_1_2_3 (broadcastInDim S4x8x32x1 ![0, 1, 2] bcast_S4x8x32_S4x8x32x1_0_1_2 (top s))))

theorem weight_apply (s : FVec Ideal S4x8x32x8192 .f32) (b : Fin 4) (h : Fin 8) (r : Fin 32) (n : Fin 8192) :
    weight s (ix4 b h r n) = Ideal.exp (s (ix4 b h r n) - top s (ix3 b h r)) := by
  unfold weight
  simp only [pointwise]
  rfl

/-- The values averaged with the weights' shares, in the output's layout. -/
def final (e : FVec Ideal S4x8x32x8192 .f32) (v : FVec Ideal S4x8192x8x128 .f32) : FVec Ideal S4x32x8x128 .f32 :=
  transpose S4x32x8x128 [0, 3, 1, 2] (Host.dotGeneral dot_S4x8192x8x128_S4x8x32x8192_S4x8x128x32_1_3_3_2_02_01 none v
    (Host.divf e (broadcastInDim S4x8x32x8192 ![0, 1, 2, 3] bcast_S4x8x32x1_S4x8x32x8192_0_1_2_3 (broadcastInDim S4x8x32x1 ![0, 1, 2] bcast_S4x8x32_S4x8x32x1_0_1_2
      (Host.reduceAdd e (constant S_ .f32 0x00000000#32) reducesTo_S4x8x32x8192_S4x8x32_d3 h_S_))))) transposes_S4x8x128x32_S4x32x8x128_0_3_1_2

theorem final_apply (e : FVec Ideal S4x8x32x8192 .f32) (v : FVec Ideal S4x8192x8x128 .f32) (b : Fin 4) (h : Fin 8) (r : Fin 32) (d : Fin 128) :
    final e v (ix4 b r h d)
      = ∑ n : Fin 8192, v (ix4 b n h d) * Ideal.div (e (ix4 b h r n)) (∑ j : Fin 8192, e (ix4 b h r j)) := by
  unfold final
  simp only [pointwise, zero_add]
  rfl

/-- The reference's run, its result named. -/
theorem run_final (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = final (weight (score (m ((c.tc : Thread nD τ).loc main_arg0)) (m ((c.tc : Thread nD τ).loc main_arg1)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdealRun

end
-- ==== Proof.Value.Agree.lean ====
module

public import proofs.«01_k».proof.Proof.Value.Heads
public import proofs.«01_k».proof.Proof.Value.Ref
public import Idealize.ShloMosaic.Lib.Layout

@[expose] public section

noncomputable section

namespace Cert.Agree

open Idealize.ShloMosaic Idealize.ShloMosaic.TcCoe Idealize.SL.Sem
open Cert.KernelIdeal (S4x32x8x128 S4x4096x8x128)
open Cert.ReferenceIdeal (S4x8192x8x128)
open Cert.KernelIdealRun (keyAt)

/-! ## The keys of the eight devices are the keys -/

/-- The place among all keys of key `n` of device `c`. -/
def place (c : Fin 8) (n : Fin 1024) : Fin 8192 :=
  ⟨4096 * (c.val / 2 % 2) + (2048 * (c.val / 4) + 1024 * (c.val % 2) + n.val), by omega⟩

/-- Each key is one device's, at one place. -/
def placeEquiv : Fin 8 × Fin 1024 ≃ Fin 8192 where
  toFun p := place p.1 p.2
  invFun N := (⟨4 * (N.val / 2048 % 2) + 2 * (N.val / 4096) + N.val / 1024 % 2, by omega⟩, ⟨N.val % 1024, Nat.mod_lt _ (by decide)⟩)
  left_inv := by
    rintro ⟨⟨c, hc⟩, n⟩
    refine Prod.ext (Fin.ext ?_) (Fin.ext ?_)
    · show 4 * ((4096 * (c / 2 % 2) + (2048 * (c / 4) + 1024 * (c % 2) + n.val)) / 2048 % 2)
        + 2 * ((4096 * (c / 2 % 2) + (2048 * (c / 4) + 1024 * (c % 2) + n.val)) / 4096)
        + (4096 * (c / 2 % 2) + (2048 * (c / 4) + 1024 * (c % 2) + n.val)) / 1024 % 2 = c
      interval_cases c <;> omega
    · show (4096 * (c / 2 % 2) + (2048 * (c / 4) + 1024 * (c % 2) + n.val)) % 1024 = n.val
      interval_cases c <;> omega
  right_inv N := Fin.ext (by
    have hN : 4096 * (N.val / 4096) + (2048 * (N.val / 2048 % 2) + 1024 * (N.val / 1024 % 2) + N.val % 1024) = N.val := by omega
    have hx : N.val / 2048 % 2 < 2 := Nat.mod_lt _ (by decide)
    have hy : N.val / 4096 < 2 := by have := N.isLt; omega
    have hz : N.val / 1024 % 2 < 2 := Nat.mod_lt _ (by decide)
    show 4096 * ((4 * (N.val / 2048 % 2) + 2 * (N.val / 4096) + N.val / 1024 % 2) / 2 % 2)
      + (2048 * ((4 * (N.val / 2048 % 2) + 2 * (N.val / 4096) + N.val / 1024 % 2) / 4)
        + 1024 * ((4 * (N.val / 2048 % 2) + 2 * (N.val / 4096) + N.val / 1024 % 2) % 2) + N.val % 1024) = N.val
    generalize N.val / 2048 % 2 = x at *
    generalize N.val / 4096 = y at *
    generalize N.val / 1024 % 2 = z at *
    generalize N.val % 1024 = w at *
    rw [← hN]
    interval_cases x <;> interval_cases y <;> interval_cases z <;> omega)

theorem sum_place (f : Fin 8192 → EReal) : ∑ c : Fin 8, ∑ n : Fin 1024, f (place c n) = ∑ N : Fin 8192, f N := by
  rw [← Fintype.sum_prod_type' fun c n => f (place c n)]
  exact Fintype.sum_equiv placeEquiv _ _ fun _ => rfl

/-- A device's shard of the keys or values. -/
abbrev shard (x : S4x8192x8x128.Idx → EReal) (c : Fin 8) : S4x4096x8x128.Idx → EReal :=
  Layout.blockN ⟨4, ![4, 4096, 8, 128]⟩ ⟨4, ![4, 8192, 8, 128]⟩ (Layout.meshBlock [2, 2, 2] ![[], [1], [], []] c) x

/-- The block of its keys a device holds is named by its middle coordinate. -/
theorem mesh_one (c : Fin 8) : ((Layout.meshBlock (r := 4) [2, 2, 2] ![[], [1], [], []] c) 1).val = c.val / 2 % 2 := by
  revert c; decide

/-- A device's shard, read at one of the device's 1024 keys. -/
theorem shard_apply (x : S4x8192x8x128.Idx → EReal) (c : Fin 8) (b : Fin 4) (n : Fin 1024) (h : Fin 8) (d : Fin 128) :
    (shard x c) (ix4 b (keyAt c n) h d) = x (ix4 b (place c n) h d) := by
  unfold shard
  rw [Layout.blockN_apply]
  refine congrArg x (funext fun a => Fin.ext ?_)
  rw [Layout.TilesN.idx_val]
  match a with
  | ⟨0, _⟩ => show 0 * 4 + b.val = b.val; omega
  | ⟨1, _⟩ =>
    refine (congrArg (· * 4096 + (keyAt c n).val) (mesh_one c)).trans ?_
    show (c.val / 2 % 2) * 4096 + (2048 * (c.val / 4) + 1024 * (c.val % 2) + n.val) = 4096 * (c.val / 2 % 2) + (2048 * (c.val / 4) + 1024 * (c.val % 2) + n.val)
    omega
  | ⟨2, _⟩ => show 0 * 8 + h.val = h.val; omega
  | ⟨3, _⟩ => show 0 * 128 + d.val = d.val; omega

/-! ## The two results -/

section
open Cert.KernelIdeal Cert.KernelIdealRun

variable (m : (ℓ : Loc nD τ sig) → Buf (Elt Ideal) ℓ) (q : FVec Ideal S4x32x8x128 .f32) (k v : FVec Ideal S4x8192x8x128 .f32)

/-- A device's score of one of its keys is the reference's score of that key. -/
theorem scoreAt_eq (hq : ∀ c, qAt m c = q) (hk : ∀ c, kArr m c = shard k c) (c : Dev nD) (b : Fin 4) (h : Fin 8) (r : Fin 32) (n : Fin 1024) :
    scoreAt m c b h r n = Cert.ReferenceIdealRun.score q k (ix4 b h r (place c n)) := by
  unfold scoreAt
  rw [Cert.ReferenceIdealRun.score_apply, hq, hk]
  simp only [shard_apply]

/-- The reference's scores are reals when the queries and keys are. -/
theorem score_real (hq : ∀ i, ∃ x : ℝ, q i = (x : EReal)) (hk : ∀ i, ∃ x : ℝ, k i = (x : EReal))
    (b : Fin 4) (h : Fin 8) (r : Fin 32) (N : Fin 8192) :
    ∃ x : ℝ, Cert.ReferenceIdealRun.score q k (ix4 b h r N) = (x : EReal) := by
  rw [Cert.ReferenceIdealRun.score_apply]
  exact Cert.Softmax.exists_score _ _ (fun _ => hq _) (fun _ => hk _)

/-- Every device ends with the reference's result. -/
theorem result_eq (hq : ∀ c, qAt m c = q) (hk : ∀ c, kArr m c = shard k c) (hv : ∀ c, vArr m c = shard v c)
    (fq : ∀ i, ∃ x : ℝ, q i = (x : EReal)) (fk : ∀ i, ∃ x : ℝ, k i = (x : EReal)) (c : Dev nD) :
    result m c = Cert.ReferenceIdealRun.final (Cert.ReferenceIdealRun.weight (Cert.ReferenceIdealRun.score q k)) v := by
  funext i
  obtain ⟨b, r, h, d, rfl⟩ : ∃ b r h d, i = ix4 b r h d := ⟨i 0, i 1, i 2, i 3, eq_ix4 i⟩
  rw [result_apply, Cert.ReferenceIdealRun.final_apply]
  simp only [scoreAt_eq m q k hq hk, hv, shard_apply, Cert.ReferenceIdealRun.weight_apply]
  rw [sum_place fun N => Ideal.exp (Cert.ReferenceIdealRun.score q k (ix4 b h r N)) * v (ix4 b N h d),
    sum_place fun N => Ideal.exp (Cert.ReferenceIdealRun.score q k (ix4 b h r N)), Cert.ReferenceIdealRun.top_apply]
  choose x hx using fun N : Fin 8192 => score_real q k fq fk b h r N
  simp only [hx]
  obtain ⟨M, hM⟩ := Cert.Softmax.exists_max x
  rw [hM]
  exact Cert.Softmax.average_eq x _ M

/-- Keys that are reals on every device are reals. -/
theorem keys_real (hk : ∀ c, kArr m c = shard k c) (fk : ∀ c i, ∃ x : ℝ, kArr m c i = (x : EReal)) (i) :
    ∃ x : ℝ, k i = (x : EReal) := by
  obtain ⟨b, N, h, d, rfl⟩ : ∃ b N h d, i = ix4 b N h d := ⟨i 0, i 1, i 2, i 3, eq_ix4 i⟩
  obtain ⟨⟨c, n⟩, rfl⟩ := placeEquiv.surjective N
  obtain ⟨x, hx⟩ := fk c (ix4 b (keyAt c n) h d)
  exact ⟨x, by rw [← hx, hk, shard_apply]; rfl⟩

end

end Cert.Agree

end
-- ==== Proof.Value.Finite.lean ====
module

public import proofs.«01_k».proof.Pre_finite_q_k_KernelIdeal
public import proofs.«01_k».proof.Pre_finite_q_k_ReferenceIdeal
public import proofs.«01_k».proof.Proof.Value.Softmax
public import Idealize.ShloMosaic.Lib.Pointwise

@[expose] public section

noncomputable section

namespace Cert.Finite

open Idealize.ShloMosaic

/-- The shape relations of the precondition, over a device's arrays and over the whole ones. -/
theorem facts_kernel : Cert.Pre_finite_q_k_KernelIdeal.Facts := ⟨by decide, by decide⟩
theorem facts_reference : Cert.Pre_finite_q_k_ReferenceIdeal.Facts := ⟨by decide, by decide⟩

/-- A comparison with infinity that holds says the number is a real. -/
theorem real_of_word {x : EReal} (h : FloatOps.cmpf (F := Ideal) (φ := .f32) .olt (max x (-x)) (Ideal.ofBits .f32 0x7F800000#32) = 1#1) :
    ∃ r : ℝ, x = (r : EReal) := by
  rw [Cert.Softmax.ofBits_top] at h
  refine Cert.Softmax.exists_coe_of_abs_lt ?_
  by_contra hn
  rw [Ideal.cmpf_def] at h
  simp [Ideal.cmp, hn] at h

open Cert.Pre_finite_q_k_KernelIdeal in
/-- Where the precondition holds, the queries and the device's keys are reals. -/
theorem reals [Cert.Pre_finite_q_k_KernelIdeal.Facts] (q : FVec Ideal S4x32x8x128 .f32) (k v : FVec Ideal S4x4096x8x128 .f32)
    (h : (fn q k v).1 = (fun _ => 1#1) ∧ (fn q k v).2 = (fun _ => 1#1)) :
    (∀ i, ∃ r : ℝ, q i = (r : EReal)) ∧ ∀ i, ∃ r : ℝ, k i = (r : EReal) :=
  ⟨fun i => real_of_word (congrFun h.1 i), fun i => real_of_word (congrFun h.2 i)⟩

end Cert.Finite

end
-- ==== Proof.lean ====
/-
# The claims
-/
module

public import proofs.«01_k».proof.Defs
public import proofs.«01_k».proof.Proof.Kernel.Launch
public import proofs.«01_k».proof.Proof.KernelIdeal.Launch
public import proofs.«01_k».proof.Proof.Value.Agree
public import proofs.«01_k».proof.Proof.Value.Finite
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : quiescent_Kernel (hKernel := Cert.Kernel.Gen.facts) := fun m g _ =>
  (θ_run _ _ _).mono (fun _ h => ⟨fun c => (h.1 c).2, h.2⟩) (Cert.KernelRun.run_main m g)

theorem frame_ideal : quiescent_KernelIdeal (hKernelIdeal := Cert.KernelIdeal.Gen.facts) := fun m g _ =>
  (θ_run _ _ _).mono (fun _ h => ⟨fun c => (h.1 c).2, h.2⟩) (Cert.KernelIdealRun.run_main m g)

theorem frame_reference : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem frame_ideal_pre : quiescent_KernelIdeal_pre_finite_q_k_KernelIdeal (hKernelIdeal := Cert.KernelIdeal.Gen.facts)
    (hPre_finite_q_k_KernelIdeal := Cert.Finite.facts_kernel) := fun m g _ =>
  (θ_run _ _ _).mono (fun _ h => ⟨fun c => (h.1 c).2, h.2⟩) (Cert.KernelIdealRun.run_main m g)

theorem frame_reference_pre : quiescent_ReferenceIdeal_pre_finite_q_k_ReferenceIdeal (hReferenceIdeal := Cert.ReferenceIdeal.Gen.facts)
    (hPre_finite_q_k_ReferenceIdeal := Cert.Finite.facts_reference) := fun m g _ =>
  (θ_run _ _ _).mono (fun r h => ⟨fun c => (h c).2, sem_eq_zero_of_no_sems rfl r.2⟩) (Cert.ReferenceIdeal.Value.run m g)

/-- On finite queries and keys every device ends with the reference's result. -/
theorem same_result : algebraic_KernelIdeal_ReferenceIdeal_pre_finite_q_k_KernelIdeal (hKernelIdeal := Cert.KernelIdeal.Gen.facts)
    (hReferenceIdeal := Cert.ReferenceIdeal.Gen.facts) (hPre_finite_q_k_KernelIdeal := Cert.Finite.facts_kernel) := fun m g m' g' hpre hagree => by
  have hr := fun c => @Cert.Finite.reals Cert.Finite.facts_kernel _ _ _ (hpre c)
  have hk := fun c => (hagree c).2.1
  refine ⟨_, (θ_run _ _ _).mono (fun _ h c => ⟨(h.1 c).1.trans (Cert.Agree.result_eq m _ _ _ (fun c => (hagree c).1) hk (fun c => (hagree c).2.2)
      (fun i => ?_) (Cert.Agree.keys_real m _ hk fun c => (hr c).2) c), (h.1 c).2⟩) (Cert.KernelIdealRun.run_main m g),
    (θ_run _ _ _).mono (fun _ h => h 0) (Cert.ReferenceIdealRun.run_final m' g')⟩
  rw [← (hagree 0).1]
  exact (hr 0).1 i

theorem claim : Cert.Claim :=
  ⟨Cert.Kernel.Gen.facts, Cert.KernelIdeal.Gen.facts, Cert.ReferenceIdeal.Gen.facts, Cert.Finite.facts_kernel, Cert.Finite.facts_reference,
    frame_kernel, frame_ideal, frame_ideal_pre, frame_reference, frame_reference_pre, trivial, same_result⟩

end Cert.Proof

end
